-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_no_tie [hPre_no_tie : Cert.Pre_no_tie.Facts] (m : (ℓ : Loc Cert.KernelIdeal.nD Cert.KernelIdeal.τ Cert.KernelIdeal.sig) → Buf (Elt Ideal) ℓ) : Prop :=
  ∀ c : Dev Cert.KernelIdeal.nD,
    (Cert.Pre_no_tie.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_no_tie [hPre_no_tie : Cert.Pre_no_tie.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_no_tie.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_no_tie [hKernelIdeal : Cert.KernelIdeal.Facts] [hPre_no_tie : Cert.Pre_no_tie.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_no_tie m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_no_tie [hReferenceIdeal : Cert.ReferenceIdeal.Facts] [hPre_no_tie : Cert.Pre_no_tie.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_no_tie m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_no_tie [hKernelIdeal : Cert.KernelIdeal.Facts] [hReferenceIdeal : Cert.ReferenceIdeal.Facts] [hPre_no_tie : Cert.Pre_no_tie.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_no_tie m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_no_tie : Cert.Pre_no_tie.Facts),
    quiescent_Kernel (hKernel := hKernel)
    ∧ quiescent_KernelIdeal (hKernelIdeal := hKernelIdeal)
    ∧ quiescent_KernelIdeal_pre_no_tie (hKernelIdeal := hKernelIdeal) (hPre_no_tie := hPre_no_tie)
    ∧ quiescent_ReferenceIdeal (hReferenceIdeal := hReferenceIdeal)
    ∧ quiescent_ReferenceIdeal_pre_no_tie (hReferenceIdeal := hReferenceIdeal) (hPre_no_tie := hPre_no_tie)
    ∧ preserves_Kernel_KernelIdeal
    ∧ algebraic_KernelIdeal_ReferenceIdeal_pre_no_tie (hKernelIdeal := hKernelIdeal) (hReferenceIdeal := hReferenceIdeal) (hPre_no_tie := hPre_no_tie)
-- ==== Pre_no_tie.lean ====
abbrev S2048x768 : Shape := ⟨2, ![2048, 768]⟩
abbrev S16384x768 : Shape := ⟨2, ![16384, 768]⟩
abbrev S768x16384 : Shape := ⟨2, ![768, 16384]⟩
abbrev S768 : Shape := ⟨1, ![768]⟩
abbrev S16384 : Shape := ⟨1, ![16384]⟩
abbrev S1x768 : Shape := ⟨2, ![1, 768]⟩
abbrev S2048x16384 : Shape := ⟨2, ![2048, 16384]⟩
abbrev S1x16384 : Shape := ⟨2, ![1, 16384]⟩
abbrev S2048x33 : Shape := ⟨2, ![2048, 33]⟩
abbrev S2048x32 : Shape := ⟨2, ![2048, 32]⟩
abbrev S_ : Shape := ⟨0, ![]⟩
abbrev S2048x1 : Shape := ⟨2, ![2048, 1]⟩
abbrev S2048 : Shape := ⟨1, ![2048]⟩

class Facts : Prop where
  bcast_S768_S1x768_1 : S768.BroadcastsInDim S1x768 (![1] : Fin 1 → Fin S1x768.rank)
  bcast_S1x768_S2048x768_0_1 : S1x768.BroadcastsInDim S2048x768 (![0, 1] : Fin 2 → Fin S2048x768.rank)
  bcast_S16384_S1x16384_1 : S16384.BroadcastsInDim S1x16384 (![1] : Fin 1 → Fin S1x16384.rank)
  bcast_S1x16384_S2048x16384_0_1 : S1x16384.BroadcastsInDim S2048x16384 (![0, 1] : Fin 2 → Fin S2048x16384.rank)
  sliceFits_S2048x16384_S2048x33 : S2048x16384.Slices (fun _ => 0) S2048x33
  slices_S2048x33_S2048x32_0_0 : S2048x33.Slices ![0, 0] S2048x32
  slices_S2048x33_S2048x32_0_1 : S2048x33.Slices ![0, 1] S2048x32
  reducesTo_S2048x32_S_d0_1 : S2048x32.ReducesTo [0, 1] S_
  h_S_ : 0 < S_.numel
  slices_S2048x33_S2048x1_0_0 : S2048x33.Slices ![0, 0] S2048x1
  shapeCasts_S2048x1_S2048 : S2048x1.ShapeCasts S2048
  bcast_S_S2048 : S_.BroadcastsInDim S2048 (![] : Fin 0 → Fin S2048.rank)
  reducesTo_S2048_S_d0 : S2048.ReducesTo [0] S_
  dot_S2048x768_S768x16384_S2048x16384_1_0_0_1_n_n_wf : DotDims.WF S2048x768 S768x16384 S2048x16384 [1] [0] [0] [1] [] []

variable [Facts]

def dot_S2048x768_S768x16384_S2048x16384_1_0_0_1_n_n : DotDims S2048x768 S768x16384 S2048x16384 where
  lhsContracting := [1]
  rhsContracting := [0]
  lhsNonContracting := [0]
  rhsNonContracting := [1]
  lhsBatch := []
  rhsBatch := []
  wf := dot_S2048x768_S768x16384_S2048x16384_1_0_0_1_n_n_wf
def fn {F : FTy → Type} [FloatOps F] (main_arg0 : FVec F S2048x768 .f32) (main_arg1 : FVec F S16384x768 .f32) (main_arg2 : FVec F S768x16384 .f32) (main_arg3 : FVec F S768 .f32) (main_arg4 : FVec F S16384 .f32) : IVec S_ 1 :=
  let main_v0 : FVec F S1x768 .f32 := broadcastInDim S1x768 ![1] bcast_S768_S1x768_1 main_arg3
  let main_v1 : FVec F S2048x768 .f32 := broadcastInDim S2048x768 ![0, 1] bcast_S1x768_S2048x768_0_1 main_v0
  let main_v2 : FVec F S2048x768 .f32 := subf main_arg0 main_v1
  let main_v3 : FVec F S2048x16384 .f32 := (fun l r => Host.dotGeneral dot_S2048x768_S768x16384_S2048x16384_1_0_0_1_n_n none l r) main_v2 main_arg2
  let main_v4 : FVec F S1x16384 .f32 := broadcastInDim S1x16384 ![1] bcast_S16384_S1x16384_1 main_arg4
  let main_v5 : FVec F S2048x16384 .f32 := broadcastInDim S2048x16384 ![0, 1] bcast_S1x16384_S2048x16384_0_1 main_v4
  let main_v6 : FVec F S2048x16384 .f32 := addf main_v3 main_v5
  let main_values : FVec F S2048x33 .f32 := (fun x => (Host.topK S2048x33 1 (FloatOps.cmpfTotal .gt) x sliceFits_S2048x16384_S2048x33).1) main_v6
  let main_indices : IVec S2048x33 32 := (fun x => (Host.topK S2048x33 1 (FloatOps.cmpfTotal .gt) x sliceFits_S2048x16384_S2048x33).2) main_v6
  let main_v7 : FVec F S2048x32 .f32 := (extractStridedSlice S2048x32 ![0, 0] · slices_S2048x33_S2048x32_0_0) main_values
  let main_v8 : FVec F S2048x32 .f32 := (extractStridedSlice S2048x32 ![0, 1] · slices_S2048x33_S2048x32_0_1) main_values
  let main_v9 : IVec S2048x32 1 := cmpf .ogt main_v7 main_v8
  let main_c : IVec S_ 1 := constantI S_ 1 1#1
  let main_v10 : IVec S_ 1 := (fun x v => Host.reduce IntOp.andi x v reducesTo_S2048x32_S_d0_1 h_S_) main_v9 main_c
  let main_v11 : FVec F S2048x1 .f32 := (extractStridedSlice S2048x1 ![0, 0] · slices_S2048x33_S2048x1_0_0) main_values
  let main_v12 : FVec F S2048 .f32 := shapeCast S2048 main_v11 shapeCasts_S2048x1_S2048
  let main_cst : FVec F S_ .f32 := constant S_ .f32 0x7F800000#32
  let main_v13 : FVec F S2048 .f32 := broadcastInDim S2048 ![] bcast_S_S2048 main_cst
  let main_v14 : IVec S2048 1 := cmpf .olt main_v12 main_v13
  let main_c_0 : IVec S_ 1 := constantI S_ 1 1#1
  let main_v15 : IVec S_ 1 := (fun x v => Host.reduce IntOp.andi x v reducesTo_S2048_S_d0 h_S_) main_v14 main_c_0
  let main_v16 : IVec S_ 1 := andi main_v10 main_v15
  main_v16
-- ==== Kernel.lean ====
abbrev S2048x768 : Shape := ⟨2, ![2048, 768]⟩
abbrev S16384x768 : Shape := ⟨2, ![16384, 768]⟩
abbrev S768x16384 : Shape := ⟨2, ![768, 16384]⟩
abbrev S768 : Shape := ⟨1, ![768]⟩
abbrev S16384 : Shape := ⟨1, ![16384]⟩
abbrev S1x768 : Shape := ⟨2, ![1, 768]⟩
abbrev S1x16384 : Shape := ⟨2, ![1, 16384]⟩
abbrev S2048x16384 : Shape := ⟨2, ![2048, 16384]⟩
abbrev S256x768 : Shape := ⟨2, ![256, 768]⟩
abbrev S768x2048 : Shape := ⟨2, ![768, 2048]⟩
abbrev S1x2048 : Shape := ⟨2, ![1, 2048]⟩
abbrev S256x2048 : Shape := ⟨2, ![256, 2048]⟩
abbrev S128x16384 : Shape := ⟨2, ![128, 16384]⟩
abbrev S128x768 : Shape := ⟨2, ![128, 768]⟩
abbrev S128x1 : Shape := ⟨2, ![128, 1]⟩
abbrev S128 : Shape := ⟨1, ![128]⟩
abbrev S128x2048 : Shape := ⟨2, ![128, 2048]⟩

abbrev nBuf : Space → Nat
  | .hbm => 9
  | .vmem => 17
  | .smem => 0
  | _ => 0

abbrev bufTy : (tb : Table) → Fin (tcTables nBuf tb) → BufTy
  | .hbm, ⟨0, _⟩ => ⟨S2048x768, .f32⟩
  | .hbm, ⟨1, _⟩ => ⟨S16384x768, .f32⟩
  | .hbm, ⟨2, _⟩ => ⟨S768x16384, .f32⟩
  | .hbm, ⟨3, _⟩ => ⟨S768, .f32⟩
  | .hbm, ⟨4, _⟩ => ⟨S16384, .f32⟩
  | .hbm, ⟨5, _⟩ => ⟨S1x768, .f32⟩
  | .hbm, ⟨6, _⟩ => ⟨S1x16384, .f32⟩
  | .hbm, ⟨7, _⟩ => ⟨S2048x16384, .f32⟩
  | .hbm, ⟨8, _⟩ => ⟨S2048x768, .f32⟩
  | .local _ .vmem, ⟨0, _⟩ => ⟨S256x768, .f32⟩
  | .local _ .vmem, ⟨1, _⟩ => ⟨S256x768, .f32⟩
  | .local _ .vmem, ⟨2, _⟩ => ⟨S768x2048, .f32⟩
  | .local _ .vmem, ⟨3, _⟩ => ⟨S768x2048, .f32⟩
  | .local _ .vmem, ⟨4, _⟩ => ⟨S1x2048, .f32⟩
  | .local _ .vmem, ⟨5, _⟩ => ⟨S1x2048, .f32⟩
  | .local _ .vmem, ⟨6, _⟩ => ⟨S1x768, .f32⟩
  | .local _ .vmem, ⟨7, _⟩ => ⟨S256x2048, .f32⟩
  | .local _ .vmem, ⟨8, _⟩ => ⟨S256x2048, .f32⟩
  | .local _ .vmem, ⟨9, _⟩ => ⟨S128x16384, .f32⟩
  | .local _ .vmem, ⟨10, _⟩ => ⟨S128x16384, .f32⟩
  | .local _ .vmem, ⟨11, _⟩ => ⟨S2048x768, .f32⟩
  | .local _ .vmem, ⟨12, _⟩ => ⟨S2048x768, .f32⟩
  | .local _ .vmem, ⟨13, _⟩ => ⟨S1x768, .f32⟩
  | .local _ .vmem, ⟨14, _⟩ => ⟨S128x768, .f32⟩
  | .local _ .vmem, ⟨15, _⟩ => ⟨S128x768, .f32⟩
  | .local _ .vmem, ⟨16, _⟩ => ⟨S128x1, .f32⟩
  | _, _ => ⟨S2048x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg3_1 : Ref sig .tc := ⟨.vmem, 15, rfl⟩
abbrev cc1_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem3_1 : DmaSem sig := 15

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S256x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S768x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x768 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev grid1 : Pipeline.Grid := ⟨2, ![16, 8], ![false, false]⟩

def k1_cond1 (i : grid1.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

@[reducible] def k1_t1_loop : Scf.Loop 32 :=
  let c0_i32_13 : BitVec 32 := 0#32
  let c32_i32 : BitVec 32 := 32#32
  let v23 : BitVec 32 := Scalar.addi c0_i32_13 c32_i32
  let c1_i32 : BitVec 32 := 1#32
  ⟨c0_i32_13, v23, c1_i32⟩
def k1_off1 (i : grid1.Coords) : Fin 2 → Nat :=
  let c0 : Index := 0#32
  let arg1 : BitVec 32 := BitVec.ofNat 32 (i 1).val
  let c2048_i32 : BitVec 32 := 2048#32
  let v3 : BitVec 32 := Scalar.muli arg1 c2048_i32
  let v4 : Index := Scalar.indexCast v3
  ![0, v4.toNat]
def k1_cond2 (i : grid1.Coords) : BitVec 1 :=
  let arg1 : BitVec 32 := BitVec.ofNat 32 (i 1).val
  let c0_i32_6 : BitVec 32 := 0#32
  let v14 : BitVec 1 := Scalar.cmpi .eq arg1 c0_i32_6
  let v15 : BitVec 32 := Scalar.extui v14
  let c0_i32_7 : BitVec 32 := 0#32
  let v16 : BitVec 1 := Scalar.cmpi .ne v15 c0_i32_7
  v16

def k1_cond3 (i : grid1.Coords) : BitVec 1 :=
  let arg1 : BitVec 32 := BitVec.ofNat 32 (i 1).val
  let c0_i32_8 : BitVec 32 := 0#32
  let v17 : BitVec 1 := Scalar.cmpi .ne arg1 c0_i32_8
  let v18 : BitVec 32 := Scalar.extui v17
  let c0_i32_9 : BitVec 32 := 0#32
  let v19 : BitVec 1 := Scalar.cmpi .ne v18 c0_i32_9
  v19

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S128x16384 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S2048x768 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 1 → Memref sig .tc .vmem S1x768 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 2 → Memref sig .tc .vmem S128x768 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]
-- ==== KernelIdeal.lean ====
variable {F : FTy → Type} [FloatOps F] [Named F]
def κ : String → Option EReal := fun
  | "mask" => some ⊥
  | _ => none
-- ==== ReferenceIdeal.lean ====
abbrev S2048x768 : Shape := ⟨2, ![2048, 768]⟩
abbrev S16384x768 : Shape := ⟨2, ![16384, 768]⟩
abbrev S768x16384 : Shape := ⟨2, ![768, 16384]⟩
abbrev S768 : Shape := ⟨1, ![768]⟩
abbrev S16384 : Shape := ⟨1, ![16384]⟩
abbrev S1x768 : Shape := ⟨2, ![1, 768]⟩
abbrev S2048x16384 : Shape := ⟨2, ![2048, 16384]⟩
abbrev S1x16384 : Shape := ⟨2, ![1, 16384]⟩
abbrev S2048x32 : Shape := ⟨2, ![2048, 32]⟩
abbrev S_ : Shape := ⟨0, ![]⟩
abbrev S2048x32x1 : Shape := ⟨3, ![2048, 32, 1]⟩
abbrev S1 : Shape := ⟨1, ![1]⟩
abbrev S1x1x1 : Shape := ⟨3, ![1, 1, 1]⟩
abbrev S2048x32x768 : Shape := ⟨3, ![2048, 32, 768]⟩

abbrev nBuf : Space → Nat
  | .hbm => 41
  | .vmem => 0
  | .smem => 0
  | _ => 0

abbrev bufTy : (tb : Table) → Fin (tcTables nBuf tb) → BufTy
  | .hbm, ⟨0, _⟩ => ⟨S2048x768, .f32⟩
  | .hbm, ⟨1, _⟩ => ⟨S16384x768, .f32⟩
  | .hbm, ⟨2, _⟩ => ⟨S768x16384, .f32⟩
  | .hbm, ⟨3, _⟩ => ⟨S768, .f32⟩
  | .hbm, ⟨4, _⟩ => ⟨S16384, .f32⟩
  | .hbm, ⟨5, _⟩ => ⟨S1x768, .f32⟩
  | .hbm, ⟨6, _⟩ => ⟨S2048x768, .f32⟩
  | .hbm, ⟨7, _⟩ => ⟨S2048x768, .f32⟩
  | .hbm, ⟨8, _⟩ => ⟨S2048x16384, .f32⟩
  | .hbm, ⟨9, _⟩ => ⟨S1x16384, .f32⟩
  | .hbm, ⟨10, _⟩ => ⟨S2048x16384, .f32⟩
  | .hbm, ⟨11, _⟩ => ⟨S2048x16384, .f32⟩
  | .hbm, ⟨12, _⟩ => ⟨S2048x32, .f32⟩
  | .hbm, ⟨13, _⟩ => ⟨S2048x32, .i32⟩
  | .hbm, ⟨14, _⟩ => ⟨S_, .i32⟩
  | .hbm, ⟨15, _⟩ => ⟨S2048x32, .i32⟩
  | .hbm, ⟨16, _⟩ => ⟨S2048x32, .i1⟩
  | .hbm, ⟨17, _⟩ => ⟨S_, .i32⟩
  | .hbm, ⟨18, _⟩ => ⟨S2048x32, .i32⟩
  | .hbm, ⟨19, _⟩ => ⟨S2048x32, .i32⟩
  | .hbm, ⟨20, _⟩ => ⟨S2048x32, .i32⟩
  | .hbm, ⟨21, _⟩ => ⟨S2048x32x1, .i32⟩
  | .hbm, ⟨22, _⟩ => ⟨S1, .i32⟩
  | .hbm, ⟨23, _⟩ => ⟨S_, .i32⟩
  | .hbm, ⟨24, _⟩ => ⟨S2048x32x1, .i32⟩
  | .hbm, ⟨25, _⟩ => ⟨S2048x32x1, .i1⟩
  | .hbm, ⟨26, _⟩ => ⟨S1x1x1, .i32⟩
  | .hbm, ⟨27, _⟩ => ⟨S2048x32x1, .i32⟩
  | .hbm, ⟨28, _⟩ => ⟨S2048x32x1, .i1⟩
  | .hbm, ⟨29, _⟩ => ⟨S2048x32x1, .i1⟩
  | .hbm, ⟨30, _⟩ => ⟨S_, .i1⟩
  | .hbm, ⟨31, _⟩ => ⟨S2048x32, .i1⟩
  | .hbm, ⟨32, _⟩ => ⟨S2048x32x768, .f32⟩
  | .hbm, ⟨33, _⟩ => ⟨S2048x32x768, .i1⟩
  | .hbm, ⟨34, _⟩ => ⟨S_, .f32⟩
  | .hbm, ⟨35, _⟩ => ⟨S2048x32x768, .f32⟩
  | .hbm, ⟨36, _⟩ => ⟨S2048x32x768, .f32⟩
  | .hbm, ⟨37, _⟩ => ⟨S2048x768, .f32⟩
  | .hbm, ⟨38, _⟩ => ⟨S1x768, .f32⟩
  | .hbm, ⟨39, _⟩ => ⟨S2048x768, .f32⟩
  | .hbm, ⟨40, _⟩ => ⟨S2048x768, .f32⟩
  | _, _ => ⟨S2048x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_values : Ref sig .tc := ⟨.hbm, 12, rfl⟩
abbrev main_indices : Ref sig .tc := ⟨.hbm, 13, rfl⟩
abbrev main_call0_c : Ref sig .tc := ⟨.hbm, 14, rfl⟩
abbrev main_call0_v0 : Ref sig .tc := ⟨.hbm, 15, rfl⟩
abbrev main_call0_v1 : Ref sig .tc := ⟨.hbm, 16, rfl⟩
abbrev main_call0_c_0 : Ref sig .tc := ⟨.hbm, 17, rfl⟩
abbrev main_call0_v2 : Ref sig .tc := ⟨.hbm, 18, rfl⟩
abbrev main_call0_v3 : Ref sig .tc := ⟨.hbm, 19, rfl⟩
abbrev main_call0_v4 : Ref sig .tc := ⟨.hbm, 20, rfl⟩
abbrev main_call0_v5 : Ref sig .tc := ⟨.hbm, 21, rfl⟩
abbrev main_call0_c_1 : Ref sig .tc := ⟨.hbm, 22, rfl⟩
abbrev main_call0_c_2 : Ref sig .tc := ⟨.hbm, 23, rfl⟩
abbrev main_call0_v6 : Ref sig .tc := ⟨.hbm, 24, rfl⟩
abbrev main_call0_v7 : Ref sig .tc := ⟨.hbm, 25, rfl⟩
abbrev main_call0_v8 : Ref sig .tc := ⟨.hbm, 26, rfl⟩
abbrev main_call0_v9 : Ref sig .tc := ⟨.hbm, 27, rfl⟩
abbrev main_call0_v10 : Ref sig .tc := ⟨.hbm, 28, rfl⟩
abbrev main_call0_v11 : Ref sig .tc := ⟨.hbm, 29, rfl⟩
abbrev main_call0_c_3 : Ref sig .tc := ⟨.hbm, 30, rfl⟩
abbrev main_call0_v12 : Ref sig .tc := ⟨.hbm, 31, rfl⟩
abbrev main_call0_v13 : Ref sig .tc := ⟨.hbm, 32, rfl⟩
abbrev main_call0_v14 : Ref sig .tc := ⟨.hbm, 33, rfl⟩
abbrev main_call0_cst : Ref sig .tc := ⟨.hbm, 34, rfl⟩
abbrev main_call0_v15 : Ref sig .tc := ⟨.hbm, 35, rfl⟩
abbrev main_v7 : Ref sig .tc := ⟨.hbm, 36, rfl⟩
abbrev main_v8 : Ref sig .tc := ⟨.hbm, 37, rfl⟩
abbrev main_v9 : Ref sig .tc := ⟨.hbm, 38, rfl⟩
abbrev main_v10 : Ref sig .tc := ⟨.hbm, 39, rfl⟩
abbrev main_v11 : Ref sig .tc := ⟨.hbm, 40, rfl⟩

abbrev nD : Nat := 1
abbrev τ : Topo := Topo.v7x

variable {F : FTy → Type} [FloatOps F]
-- ==== Proof.KernelIdeal.Encode.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Tactic

@[expose] public section

set_option maxRecDepth 16384

noncomputable section

/-! The encode call: what one run of its body leaves in the logits' block, and the pipeline's proof data
    at any contents `V` of the buffers when the call starts. -/

namespace Cert.KernelIdeal.Run

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F] [Named F]

local notation "𝕄" => MT nD τ sig Unit (Elt F) ℕ (UR sig nD τ) ℕ

/-- The contents of every TensorCore buffer on every core. -/
abbrev Bufs (F : FTy → Type) : Type := (c : Dev nD) → (b : Ref sig .tc) → Buf (Elt F) ((c : Thread nD τ).loc b)

variable (V : Bufs F)

/-- The whole rectangle of a block of the encode call's windows. -/
abbrev rX : Rect S256x768 := Rect.unit (s := S256x768) ![0, 0] S256x768.size inb_S256x768_S256x768_0_0
abbrev rPb : Rect S1x768 := Rect.unit (s := S1x768) ![0, 0] S1x768.size inb_S1x768_S1x768_0_0
abbrev rWT : Rect S768x2048 := Rect.unit (s := S768x2048) ![0, 0] S768x2048.size inb_S768x2048_S768x2048_0_0
abbrev rB1 : Rect S1x2048 := Rect.unit (s := S1x2048) ![0, 0] S1x2048.size inb_S1x2048_S1x2048_0_0
abbrev rL : Rect S256x2048 := Rect.unit (s := S256x2048) ![0, 0] S256x2048.size inb_S256x2048_S256x2048_0_0

/-- The logits' block one run of the encode body leaves, from the blocks of `x`, `WT`, `b1` and `pb`. -/
def encOut (x0 : Vec F S256x768 .f32) (x1 : Vec F S768x2048 .f32) (x2 : Vec F S1x2048 .f32) (x3 : Vec F S1x768 .f32) :
    Vec F S256x2048 .f32 :=
  View.canon [⟨rL, k0_pay1 (View.ld x0 rX) (View.ld x3 rPb) (View.ld x1 rWT) (View.ld x2 rB1)⟩]

set_option maxHeartbeats 1000000 in
/-- One run of the encode body: the input blocks stay, the output block ends at `encOut` of them. -/
theorem enc_triple (c : Dev nD) (E : Set ℕ) (i : grid0.Coords)
    (arg2 : Memref sig .tc .vmem S256x768 .f32) (harg2 : arg2.IsWhole) (arg3 : Memref sig .tc .vmem S768x2048 .f32) (harg3 : arg3.IsWhole)
    (arg4 : Memref sig .tc .vmem S1x2048 .f32) (harg4 : arg4.IsWhole) (arg5 : Memref sig .tc .vmem S1x768 .f32) (harg5 : arg5.IsWhole)
    (arg6 : Memref sig .tc .vmem S256x2048 .f32) (harg6 : arg6.IsWhole)
    (x0 : Vec F S256x768 .f32) (x1 : Vec F S768x2048 .f32) (x2 : Vec F S1x2048 .f32) (x3 : Vec F S1x768 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ (∃ d, owns (c : Thread nD τ) arg6 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare (encOut x0 x1 x2 x3)) -∗ K ⟨⟩))
      ⊢ wp frame (wpE (defs₀ (F := F)) Variants.none c none) E (cc0__encode_body i arg2 harg2 arg3 harg3 arg4 harg4 arg5 harg5 arg6 harg6) K := by
  simp only [cc0__encode_body_eq_skeleton]; unfold cc0__encode_body_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (View.cover_of_tiled _ S256x2048.size (by rfl))

/-- Window `w`'s block of the encode call at point `t`, read off its array at the contents `V`. -/
def encBlk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The encode call's proof data: every input block in place after each point, the output block at `encOut`. -/
def encDat (c : Dev nD) : Dat τ (Elt F) Unit ℕ (UR sig nD τ) ℕ cfg0 c where
  A w := V c (Pipeline.arrRef spec0 w)
  after w t := match w with
    | ⟨0, _⟩ => encBlk V c 0 t
    | ⟨1, _⟩ => encBlk V c 1 t
    | ⟨2, _⟩ => encBlk V c 2 t
    | ⟨3, _⟩ => encBlk V c 3 t
    | ⟨4, _⟩ => encOut (encBlk V c 0 t) (encBlk V c 1 t) (encBlk V c 2 t) (encBlk V c 3 t)
  Φ _ := Pipeline.ΦA spec0 c
  q _ := fullShare
  owed _ := 0

theorem encDat_A (c : Dev nD) (w : Fin cfg0.W) : (encDat V c).A w = V c (Pipeline.arrRef spec0 w) := by
  dsimp only [encDat]

theorem enc_after0 (c : Dev nD) (t : Fin cfg0.N) : (encDat V c).after 0 t = encBlk V c 0 t := by dsimp only [encDat]
theorem enc_after1 (c : Dev nD) (t : Fin cfg0.N) : (encDat V c).after 1 t = encBlk V c 1 t := by dsimp only [encDat]
theorem enc_after2 (c : Dev nD) (t : Fin cfg0.N) : (encDat V c).after 2 t = encBlk V c 2 t := by dsimp only [encDat]
theorem enc_after3 (c : Dev nD) (t : Fin cfg0.N) : (encDat V c).after 3 t = encBlk V c 3 t := by dsimp only [encDat]
theorem enc_after4 (c : Dev nD) (t : Fin cfg0.N) : (encDat V c).after 4 t
    = encOut (encBlk V c 0 t) (encBlk V c 1 t) (encBlk V c 2 t) (encBlk V c 3 t) := by dsimp only [encDat]

/-- Each input window holds its block when the body starts at a point, copied there or left from before. -/
theorem enc_before0 (c : Dev nD) (t : Fin cfg0.N) (d) : (encDat V c).before 0 t d = encBlk V c 0 t :=
  ((encDat V c).before_in_eq_fetched 0 rfl (fun _ => rfl) (fun _ _ _ => rfl)
    (fun t => by rw [enc_after0]; unfold Dat.blockOf encBlk; rw [encDat_A]) t d).trans (by unfold Dat.fetched Dat.blockOf encBlk; rw [encDat_A]; rfl)
theorem enc_before1 (c : Dev nD) (t : Fin cfg0.N) (d) : (encDat V c).before 1 t d = encBlk V c 1 t :=
  ((encDat V c).before_in_eq_fetched 1 rfl (fun _ => rfl) (fun _ _ _ => rfl)
    (fun t => by rw [enc_after1]; unfold Dat.blockOf encBlk; rw [encDat_A]) t d).trans (by unfold Dat.fetched Dat.blockOf encBlk; rw [encDat_A]; rfl)
theorem enc_before2 (c : Dev nD) (t : Fin cfg0.N) (d) : (encDat V c).before 2 t d = encBlk V c 2 t :=
  ((encDat V c).before_in_eq_fetched 2 rfl (fun _ => rfl) (fun _ _ _ => rfl)
    (fun t => by rw [enc_after2]; unfold Dat.blockOf encBlk; rw [encDat_A]) t d).trans (by unfold Dat.fetched Dat.blockOf encBlk; rw [encDat_A]; rfl)
theorem enc_before3 (c : Dev nD) (t : Fin cfg0.N) (d) : (encDat V c).before 3 t d = encBlk V c 3 t :=
  ((encDat V c).before_in_eq_fetched 3 rfl (fun _ => rfl) (fun _ _ _ => rfl)
    (fun t => by rw [enc_after3]; unfold Dat.blockOf encBlk; rw [encDat_A]) t d).trans (by unfold Dat.fetched Dat.blockOf encBlk; rw [encDat_A]; rfl)

/-- What the encode body starts from at point `t`, window by window, -/
def encPre (c : Dev nD) (t : Fin cfg0.N) : sProp 𝕄 :=
  iprop((encDat V c).Φ t.castSucc ∗ (encDat V c).owesAt () t.castSucc
    ∗ (∃ d, owns (c : Thread nD τ) (st0_0 t) fullShare ((encDat V c).before 0 t d))
    ∗ (∃ d, owns (c : Thread nD τ) (st0_1 t) fullShare ((encDat V c).before 1 t d))
    ∗ (∃ d, owns (c : Thread nD τ) (st0_2 t) fullShare ((encDat V c).before 2 t d))
    ∗ (∃ d, owns (c : Thread nD τ) (st0_3 t) fullShare ((encDat V c).before 3 t d))
    ∗ (∃ d, owns (c : Thread nD τ) (st0_4 t) fullShare ((encDat V c).before 4 t d)))

/-- and what it ends with. -/
def encPost (c : Dev nD) (t : Fin cfg0.N) : sProp 𝕄 :=
  iprop((encDat V c).Φ t.succ ∗ (encDat V c).owesAt () t.succ
    ∗ owns (c : Thread nD τ) (st0_0 t) fullShare ((encDat V c).after 0 t)
    ∗ owns (c : Thread nD τ) (st0_1 t) fullShare ((encDat V c).after 1 t)
    ∗ owns (c : Thread nD τ) (st0_2 t) fullShare ((encDat V c).after 2 t)
    ∗ owns (c : Thread nD τ) (st0_3 t) fullShare ((encDat V c).after 3 t)
    ∗ owns (c : Thread nD τ) (st0_4 t) fullShare ((encDat V c).after 4 t))

/-- The encode body at any point of the grid. -/
theorem enc_body (c : Dev nD) (t : Fin cfg0.N) :
    encPre V c t ⊢ wp frame (wpE (defs₀ (F := F)) Variants.none c none) Set.univ (bodyAt0 t) (fun _ => encPost V c t) := by
  unfold encPre encPost bodyAt0
  simp only [enc_before0, enc_before1, enc_before2, enc_before3]
  rw [show (encDat V c).Φ t.succ = (encDat V c).Φ t.castSucc from rfl,
    show (encDat V c).owesAt () t.succ = (encDat V c).owesAt () t.castSucc from rfl,
    enc_after0, enc_after1, enc_after2, enc_after3, enc_after4]
  iintro ⟨HΦ, Ho, ⟨%d0, H0⟩, ⟨%d1, H1⟩, ⟨%d2, H2⟩, ⟨%d3, H3⟩, ⟨%d4, H4⟩⟩
  iapply (enc_triple c Set.univ (grid0.coords t) _ _ _ _ _ _ _ _ _ _ (encBlk V c 0 t) (encBlk V c 1 t) (encBlk V c 2 t) (encBlk V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem enc_row (t : Fin cfg0.N) : defs₀ (F := F) .tc cfg0.body (cfg0.bodyArgs t (cfg0.slots t)) = bodyAt0 t := by
  unfold defs₀; rw [Defs.onTc_tc]

/-- The pipeline's obligation on the encode body. -/
theorem enc_obligation (c : Dev nD) : BodyObligation (encDat (F := F) V c) (defs₀ (F := F)) Variants.none () Set.univ := fun t => by
  rw [bigSep_W0, bigSep_W0, enc_row]
  exact triple_restated (enc_body V c t) rfl .rfl fun _ => .rfl

end Cert.KernelIdeal.Run

end
-- ==== Proof.KernelIdeal.Decode.lean ====
module

public import proofs.«01_k».proof.Proof.KernelIdeal.Encode
public import proofs.«01_k».proof.Proof.Gen.KernelIdeal.Loops
public import Idealize.ShloMosaic.Lib.Pipeline.TableIdle
public import Idealize.ShloMosaic.Lib.Pipeline.Value
public import Idealize.ShloMosaic.Lib.WordCmp

@[expose] public section

set_option maxRecDepth 16384

noncomputable section

/-! The select-and-decode call: what one run of its body leaves in the output block and in the threshold column. -/

namespace Cert.KernelIdeal.Run

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F] [Named F]

local notation "𝕄" => MT nD τ sig Unit (Elt F) ℕ (UR sig nD τ) ℕ

variable (V : Bufs F)

/-- The threshold column of a block of logits: from the word printed for `+∞`, thirty-two times the greatest
    logit of the row below the last one. -/
def decThr (x0 : Vec F S128x16384 .f32) : Vec F S128x1 .f32 :=
  k1_pay3 (Scf.fold (fun (_ : Fin k1_t1_loop.trips) cur => k1_pay2 x0 cur) k1_pay1)

/-- The 2048 columns of the logits' block that the point at coordinates `i` reads. -/
def decCols (i : grid1.Coords) (x0 : Vec F S128x16384 .f32) : Vec F S128x2048 .f32 :=
  View.ld x0 (Rect.unit (s := S128x16384) (k1_off1 i) S128x2048.size (k1_off1_inb i))

/-- Where the three conditions of the body hold. -/
theorem cond1_iff (t : Fin cfg1.N) : k1_cond1 (grid1.coords t) = 1#1 ↔ t.val % 8 = 0 := by
  have ht : t.val < 128 := Nat.lt_of_lt_of_eq t.isLt N_1
  have e1 : (grid1.coords t 1).val = t.val / 1 % 8 := Pipeline.Grid.coords_val t 1 (by decide) rfl
  simp only [k1_cond1, e1]
  word_cmp
theorem cond2_iff (t : Fin cfg1.N) : k1_cond2 (grid1.coords t) = 1#1 ↔ t.val % 8 = 0 := by
  have ht : t.val < 128 := Nat.lt_of_lt_of_eq t.isLt N_1
  have e1 : (grid1.coords t 1).val = t.val / 1 % 8 := Pipeline.Grid.coords_val t 1 (by decide) rfl
  simp only [k1_cond2, e1]
  word_cmp
theorem cond3_iff (t : Fin cfg1.N) : k1_cond3 (grid1.coords t) = 1#1 ↔ ¬t.val % 8 = 0 := by
  have ht : t.val < 128 := Nat.lt_of_lt_of_eq t.isLt N_1
  have e1 : (grid1.coords t 1).val = t.val / 1 % 8 := Pipeline.Grid.coords_val t 1 (by decide) rfl
  have e : ¬t.val % 8 = 0 ↔ 1 ≤ t.val % 8 := by omega
  rw [e]
  simp only [k1_cond3, e1]
  word_cmp

/-- The threshold column's buffer. -/
abbrev thrM : Memref sig .tc .vmem S128x1 .f32 := Memref.whole cc1_scratch0

theorem zero2 : (![0, 0] : Fin 2 → ℕ) = fun _ => 0 := by funext a; fin_cases a <;> rfl

/-- A load of a whole buffer reads its contents. -/
theorem read_whole {S : Shape} {e : EltTy} (v : View sig .tc .vmem S e) {off : Fin S.rank → ℕ} (h : off = fun _ => 0)
    (inb : ∀ a, off a + S.size a ≤ S.size a) (f : v.ty.Contents (Elt F)) :
    v.readAt (Elt F) (Rect.unit off S.size inb).toLoadRect f = v.read (Elt F) f :=
  View.ld_unit_zero h inb _
theorem read_logits (v : View sig .tc .vmem S128x16384 .f32) (f : v.ty.Contents (Elt F)) :
    v.readAt (Elt F) (Rect.unit (s := S128x16384) ![0, 0] S128x16384.size inb_S128x16384_S128x16384_0_0).toLoadRect f = v.read (Elt F) f :=
  read_whole v zero2 _ f
theorem read_w (v : View sig .tc .vmem S2048x768 .f32) (f : v.ty.Contents (Elt F)) :
    v.readAt (Elt F) (Rect.unit (s := S2048x768) ![0, 0] S2048x768.size inb_S2048x768_S2048x768_0_0).toLoadRect f = v.read (Elt F) f :=
  read_whole v zero2 _ f
theorem read_pb (v : View sig .tc .vmem S1x768 .f32) (f : v.ty.Contents (Elt F)) :
    v.readAt (Elt F) (Rect.unit (s := S1x768) ![0, 0] S1x768.size inb_S1x768_S1x768_0_0).toLoadRect f = v.read (Elt F) f :=
  read_whole v zero2 _ f
theorem read_acc (v : View sig .tc .vmem S128x768 .f32) (f : v.ty.Contents (Elt F)) :
    v.readAt (Elt F) (Rect.unit (s := S128x768) ![0, 0] S128x768.size inb_S128x768_S128x768_0_0).toLoadRect f = v.read (Elt F) f :=
  read_whole v zero2 _ f
theorem read_thr (v : View sig .tc .vmem S128x1 .f32) (f : v.ty.Contents (Elt F)) :
    v.readAt (Elt F) (Rect.unit (s := S128x1) ![0, 0] S128x1.size inb_S128x1_S128x1_0_0).toLoadRect f = v.read (Elt F) f :=
  read_whole v zero2 _ f
theorem cov_thr (v : View sig .tc .vmem S128x1 .f32) (x : Vec F S128x1 .f32) :
    v.readCov [(⟨Rect.unit (s := S128x1) ![0, 0] S128x1.size inb_S128x1_S128x1_0_0, x⟩ : View.Piece (Elt F) S128x1 .f32)]
      (Rect.unit (s := S128x1) ![0, 0] S128x1.size inb_S128x1_S128x1_0_0).toLoadRect = x :=
  View.readCov_unit_zero v zero2 _ x
theorem canon_out (x : Vec F S128x768 .f32) :
    View.canon [(⟨Rect.unit (s := S128x768) ![0, 0] S128x768.size inb_S128x768_S128x768_0_0, x⟩ : View.Piece (Elt F) S128x768 .f32)] = x :=
  View.canon_unit_zero (S := S128x768) zero2 _ x
theorem canon_thr (x : Vec F S128x1 .f32) :
    View.canon [(⟨Rect.unit (s := S128x1) ![0, 0] S128x1.size inb_S128x1_S128x1_0_0, x⟩ : View.Piece (Elt F) S128x1 .f32)] = x :=
  View.canon_unit_zero (S := S128x1) zero2 _ x

set_option maxHeartbeats 2000000 in
/-- One run of the body at a row block's first point. -/
theorem dec_first (c : Dev nD) (E : Set ℕ) (i : grid1.Coords)
    (arg2 : Memref sig .tc .vmem S128x16384 .f32) (harg2 : arg2.IsWhole) (arg3 : Memref sig .tc .vmem S2048x768 .f32) (harg3 : arg3.IsWhole)
    (arg4 : Memref sig .tc .vmem S1x768 .f32) (harg4 : arg4.IsWhole) (arg5 : Memref sig .tc .vmem S128x768 .f32) (harg5 : arg5.IsWhole)
    (arg6 : Memref sig .tc .vmem S128x1 .f32) (harg6 : arg6.IsWhole)
    (h1 : k1_cond1 i = 1#1) (h2 : k1_cond2 i = 1#1) (h3 : ¬k1_cond3 i = 1#1)
    (x0 : Vec F S128x16384 .f32) (x1 : Vec F S2048x768 .f32) (x2 : Vec F S1x768 .f32) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d) ∗ (∃ d, owns (c : Thread nD τ) arg6 fullShare d)
        ∗ (iprop(owns (c : Thread nD τ) arg2 fullShare x0 ∗ owns (c : Thread nD τ) arg3 fullShare x1 ∗ owns (c : Thread nD τ) arg4 fullShare x2
            ∗ owns (c : Thread nD τ) arg5 fullShare (k1_pay5 (decCols i x0) (decThr x0) x1 x2)
            ∗ owns (c : Thread nD τ) arg6 fullShare (decThr x0)) -∗ K ⟨⟩))
      ⊢ wp frame (wpE (defs₀ (F := F)) Variants.none c none) E
        (cc1__select_decode_body i arg2 harg2 arg3 harg3 arg4 harg4 arg5 harg5 arg6 harg6) K := by
  simp only [cc1__select_decode_body_eq_skeleton]; unfold cc1__select_decode_body_skel
  unfold owns
  iintro ⟨⟨%f0, %hf0, H0⟩, ⟨%f1, %hf1, H1⟩, ⟨%f2, %hf2, H2⟩, ⟨%d3, %f3, -, H3⟩, ⟨%d4, %f4, -, H4⟩, Hk⟩
  obtain rfl := harg2.eq_unread hf0; obtain rfl := harg3.eq_unread hf1; obtain rfl := harg4.eq_unread hf2
  sl_exec (disch := first | sl_exact h1 | sl_exact h2 | sl_exact h3)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr
    swap; · iexact H3
    ipureintro
    rw [View.read_writes_eq_canon _ _ _ (View.cover_of_tiled _ S128x768.size (by rfl)), canon_out]
    delta dec_first.sl.v7 dec_first.sl.H4_1
    rw [cov_thr, read_w, read_pb, hf1, hf2]
    delta dec_first.sl.r
    rw [read_logits, hf0, View.readAt_eq_ld, hf0]
    rfl
  iexists _; isplitr
  swap; · iexact H4
  ipureintro
  delta dec_first.sl.H4_1
  rw [View.read_writes_eq_canon _ _ _ (View.cover_of_tiled _ S128x1.size (by rfl)), canon_thr]
  delta dec_first.sl.r
  rw [read_logits, hf0]
  rfl

set_option maxHeartbeats 2000000 in
/-- One run of the body at a later point of a row block: the threshold column is read, the part is added. -/
theorem dec_later (c : Dev nD) (E : Set ℕ) (i : grid1.Coords)
    (arg2 : Memref sig .tc .vmem S128x16384 .f32) (harg2 : arg2.IsWhole) (arg3 : Memref sig .tc .vmem S2048x768 .f32) (harg3 : arg3.IsWhole)
    (arg4 : Memref sig .tc .vmem S1x768 .f32) (harg4 : arg4.IsWhole) (arg5 : Memref sig .tc .vmem S128x768 .f32) (harg5 : arg5.IsWhole)
    (arg6 : Memref sig .tc .vmem S128x1 .f32) (harg6 : arg6.IsWhole)
    (h1 : ¬k1_cond1 i = 1#1) (h2 : ¬k1_cond2 i = 1#1) (h3 : k1_cond3 i = 1#1)
    (x0 : Vec F S128x16384 .f32) (x1 : Vec F S2048x768 .f32) (x2 : Vec F S1x768 .f32) (xo : Vec F S128x768 .f32) (xs : Vec F S128x1 .f32)
    (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare xo ∗ owns (c : Thread nD τ) arg6 fullShare xs
        ∗ (iprop(owns (c : Thread nD τ) arg2 fullShare x0 ∗ owns (c : Thread nD τ) arg3 fullShare x1 ∗ owns (c : Thread nD τ) arg4 fullShare x2
            ∗ owns (c : Thread nD τ) arg5 fullShare (k1_pay6 (decCols i x0) xs x1 xo)
            ∗ owns (c : Thread nD τ) arg6 fullShare xs) -∗ K ⟨⟩))
      ⊢ wp frame (wpE (defs₀ (F := F)) Variants.none c none) E
        (cc1__select_decode_body i arg2 harg2 arg3 harg3 arg4 harg4 arg5 harg5 arg6 harg6) K := by
  simp only [cc1__select_decode_body_eq_skeleton]; unfold cc1__select_decode_body_skel
  unfold owns
  iintro ⟨⟨%f0, %hf0, H0⟩, ⟨%f1, %hf1, H1⟩, ⟨%f2, %hf2, H2⟩, ⟨%f3, %hf3, H3⟩, ⟨%f4, %hf4, H4⟩, Hk⟩
  obtain rfl := harg2.eq_unread hf0; obtain rfl := harg3.eq_unread hf1; obtain rfl := harg4.eq_unread hf2
  obtain rfl := harg5.eq_unread hf3; obtain rfl := harg6.eq_unread hf4
  sl_exec (disch := first | sl_exact h1 | sl_exact h2 | sl_exact h3)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr
    swap; · iexact H3
    ipureintro
    rw [View.read_writes_eq_canon _ _ _ (View.cover_of_tiled _ S128x768.size (by rfl)), canon_out,
      read_w, read_acc, read_thr, hf1, hf3, hf4, View.readAt_eq_ld, hf0]
    rfl
  iexists _; isplitr
  swap; · iexact H4
  ipureintro
  exact harg6.read_unread _

/-- Window `w`'s block of the decode call at point `t`, read off its array at the contents `V`. -/
def decBlk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- What the output block and the threshold column hold after a row block's first point, -/
def decFirst (c : Dev nD) (t : Fin cfg1.N) : Vec F S128x768 .f32 × Vec F S128x1 .f32 :=
  (k1_pay5 (decCols (grid1.coords t) (decBlk V c 0 t)) (decThr (decBlk V c 0 t)) (decBlk V c 1 t) (decBlk V c 2 t),
    decThr (decBlk V c 0 t))

/-- after a later point, from what the point before left, -/
def decNext (c : Dev nD) (t : Fin cfg1.N) (p : Vec F S128x768 .f32 × Vec F S128x1 .f32) : Vec F S128x768 .f32 × Vec F S128x1 .f32 :=
  (k1_pay6 (decCols (grid1.coords t) (decBlk V c 0 t)) p.2 (decBlk V c 1 t) p.1, p.2)

/-- and point by point. -/
def decAt (c : Dev nD) : (n : ℕ) → n < cfg1.N → Vec F S128x768 .f32 × Vec F S128x1 .f32
  | 0, h => decFirst V c ⟨0, h⟩
  | n + 1, h => if (n + 1) % 8 = 0 then decFirst V c ⟨n + 1, h⟩
      else decNext V c ⟨n + 1, h⟩ (decAt c n (Nat.lt_of_succ_lt h))

theorem decAt_first (c : Dev nD) (t : Fin cfg1.N) (h : t.val % 8 = 0) : decAt V c t.val t.isLt = decFirst V c t := by
  obtain ⟨n, hn⟩ := t
  cases n with
  | zero => rfl
  | succ n => exact if_pos h

theorem decAt_later (c : Dev nD) (t : Fin cfg1.N) (h : ¬t.val % 8 = 0) :
    decAt V c t.val t.isLt = decNext V c t (decAt V c (t.val - 1) (Nat.lt_of_le_of_lt (Nat.sub_le _ _) t.isLt)) := by
  obtain ⟨n, hn⟩ := t
  cases n with
  | zero => exact absurd rfl h
  | succ n => exact if_neg h

/-- What stays aside while the decode call runs: the encode call's staging buffers and the generator register. -/
def aside (c : Dev nD) : sProp 𝕄 :=
  iprop((∃ f : Buf (Elt F) ((c : Thread nD τ).loc cc0_stg0_0), ((c : Thread nD τ).loc cc0_stg0_0) ↦{fullShare} f)
        ∗ (∃ f : Buf (Elt F) ((c : Thread nD τ).loc cc0_stg0_1), ((c : Thread nD τ).loc cc0_stg0_1) ↦{fullShare} f)
        ∗ (∃ f : Buf (Elt F) ((c : Thread nD τ).loc cc0_stg1_0), ((c : Thread nD τ).loc cc0_stg1_0) ↦{fullShare} f)
        ∗ (∃ f : Buf (Elt F) ((c : Thread nD τ).loc cc0_stg1_1), ((c : Thread nD τ).loc cc0_stg1_1) ↦{fullShare} f)
        ∗ (∃ f : Buf (Elt F) ((c : Thread nD τ).loc cc0_stg2_0), ((c : Thread nD τ).loc cc0_stg2_0) ↦{fullShare} f)
        ∗ (∃ f : Buf (Elt F) ((c : Thread nD τ).loc cc0_stg2_1), ((c : Thread nD τ).loc cc0_stg2_1) ↦{fullShare} f)
        ∗ (∃ f : Buf (Elt F) ((c : Thread nD τ).loc cc0_stg3_0), ((c : Thread nD τ).loc cc0_stg3_0) ↦{fullShare} f)
        ∗ (∃ f : Buf (Elt F) ((c : Thread nD τ).loc cc0_stg4_0), ((c : Thread nD τ).loc cc0_stg4_0) ↦{fullShare} f)
        ∗ (∃ f : Buf (Elt F) ((c : Thread nD τ).loc cc0_stg4_1), ((c : Thread nD τ).loc cc0_stg4_1) ↦{fullShare} f)
        ∗ (∃ r, prngReg c r))

/-- The invariant of the decode call before position `n`: the threshold column at what the point before left. -/
def decPhi (c : Dev nD) : (n : ℕ) → n ≤ cfg1.N → sProp 𝕄
  | 0, _ => iprop((∃ d, owns (c : Thread nD τ) thrM fullShare d) ∗ aside c)
  | n + 1, h => iprop(owns (c : Thread nD τ) thrM fullShare (decAt V c n h).2 ∗ aside c)

theorem decPhi_pos (c : Dev nD) (n : ℕ) (h : n ≤ cfg1.N) (hz : n ≠ 0) :
    decPhi V c n h = iprop(owns (c : Thread nD τ) thrM fullShare (decAt V c (n - 1) (by omega)).2 ∗ aside c) := by
  cases n with
  | zero => exact absurd rfl hz
  | succ n => rfl

/-- At any position the threshold column holds something. -/
theorem decPhi_some (c : Dev nD) (n : ℕ) (h : n ≤ cfg1.N) :
    decPhi V c n h ⊢ iprop((∃ d, owns (c : Thread nD τ) thrM fullShare d) ∗ aside c) := by
  cases n with
  | zero => exact .rfl
  | succ n =>
    show iprop(owns (c : Thread nD τ) thrM fullShare (decAt V c n h).2 ∗ aside c) ⊢ _
    iintro ⟨H, Ha⟩
    isplitl [H]; · iexists _; iexact H
    iexact Ha

/-- The decode call's scoped buffers and register, as the region hands them over, -/
theorem decPhi_in (c : Dev nD) : (Pipeline.ΦA spec1 c : sProp 𝕄) ⊢ decPhi V c 0 (Nat.zero_le _) := by
  show (Pipeline.ΦA spec1 c : sProp 𝕄) ⊢ iprop((∃ d, owns (c : Thread nD τ) thrM fullShare d) ∗ aside c)
  unfold Pipeline.ΦA aside; rw [scopedRest1_eq]; simp only [thrM, owns_whole]
  iintro ⟨⟨H0, H1, H2, H3, H4, H5, H6, H7, H8, HS⟩, Hg⟩
  isplitl [HS]; · iexact HS
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact Hg

/-- and as it takes them back. -/
theorem decPhi_out (c : Dev nD) (n : ℕ) (h : n ≤ cfg1.N) : decPhi V c n h ⊢ (Pipeline.ΦA spec1 c : sProp 𝕄) := by
  refine (decPhi_some V c n h).trans ?_
  unfold Pipeline.ΦA aside; rw [scopedRest1_eq]; simp only [thrM, owns_whole]
  iintro ⟨HS, H0, H1, H2, H3, H4, H5, H6, H7, H8, Hg⟩
  isplitl [H0 H1 H2 H3 H4 H5 H6 H7 H8 HS]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact HS
  iexact Hg

/-- The decode call's proof data. -/
def decDat (c : Dev nD) : Dat τ (Elt F) Unit ℕ (UR sig nD τ) ℕ cfg1 c where
  A w := V c (Pipeline.arrRef spec1 w)
  after w t := match w with
    | ⟨0, _⟩ => decBlk V c 0 t
    | ⟨1, _⟩ => decBlk V c 1 t
    | ⟨2, _⟩ => decBlk V c 2 t
    | ⟨3, _⟩ => (decAt V c t.val t.isLt).1
  Φ t := decPhi V c t.val (Nat.le_of_lt_succ t.isLt)
  q _ := fullShare
  owed _ := 0

theorem decDat_A (c : Dev nD) (w : Fin cfg1.W) : (decDat V c).A w = V c (Pipeline.arrRef spec1 w) := by
  dsimp only [decDat]

theorem dec_after0 (c : Dev nD) (t : Fin cfg1.N) : (decDat V c).after 0 t = decBlk V c 0 t := by dsimp only [decDat]
theorem dec_after1 (c : Dev nD) (t : Fin cfg1.N) : (decDat V c).after 1 t = decBlk V c 1 t := by dsimp only [decDat]
theorem dec_after2 (c : Dev nD) (t : Fin cfg1.N) : (decDat V c).after 2 t = decBlk V c 2 t := by dsimp only [decDat]
theorem dec_after3 (c : Dev nD) (t : Fin cfg1.N) : (decDat V c).after 3 t = (decAt V c t.val t.isLt).1 := by dsimp only [decDat]

theorem dec_before0 (c : Dev nD) (t : Fin cfg1.N) (d) : (decDat V c).before 0 t d = decBlk V c 0 t :=
  ((decDat V c).before_in_eq_fetched 0 rfl (fun _ => rfl) (fun _ _ _ => rfl)
    (fun t => by rw [dec_after0]; unfold Dat.blockOf decBlk; rw [decDat_A]) t d).trans (by unfold Dat.fetched Dat.blockOf decBlk; rw [decDat_A]; rfl)
theorem dec_before1 (c : Dev nD) (t : Fin cfg1.N) (d) : (decDat V c).before 1 t d = decBlk V c 1 t :=
  ((decDat V c).before_in_eq_fetched 1 rfl (fun _ => rfl) (fun _ _ _ => rfl)
    (fun t => by rw [dec_after1]; unfold Dat.blockOf decBlk; rw [decDat_A]) t d).trans (by unfold Dat.fetched Dat.blockOf decBlk; rw [decDat_A]; rfl)
theorem dec_before2 (c : Dev nD) (t : Fin cfg1.N) (d) : (decDat V c).before 2 t d = decBlk V c 2 t :=
  ((decDat V c).before_in_eq_fetched 2 rfl (fun _ => rfl) (fun _ _ _ => rfl)
    (fun t => by rw [dec_after2]; unfold Dat.blockOf decBlk; rw [decDat_A]) t d).trans (by unfold Dat.fetched Dat.blockOf decBlk; rw [decDat_A]; rfl)

/-- The output block is stored at every point, -/
theorem out_live : ∀ t : Fin cfg1.N, cfg1.idle 3 (grid1.coords t) = false := by decide +kernel
/-- and written back at the last point of each row block. -/
theorem out_flush : ∀ t : Fin cfg1.N, (cfg1.win 3).flush t = decide (t.val % 8 = 7) := by decide +kernel

/-- So before a later point of a row block the buffer holds what was stored there, -/
theorem out_kept (t : Fin cfg1.N) (h : ¬t.val % 8 = 0) : cfg1.fresh 3 t.val = false := by
  rw [Pipeline.Cfg.fresh_tab cfg1 3 (fun n => decide (n % 8 = 0)) rfl (fun t => by
    rw [out_flush, show cfg1.idle 3 (cfg1.grid.coords t) = false from out_live t, Bool.false_and, Bool.or_false]
    exact decide_eq_decide.mpr (by omega)) t.val (Nat.le_of_lt t.isLt)]
  exact decide_eq_false h

/-- namely what the point before left. -/
theorem dec_before3 (c : Dev nD) (t : Fin cfg1.N) (h : ¬t.val % 8 = 0) (d) :
    (decDat V c).before 3 t d = (decAt V c (t.val - 1) (Nat.lt_of_le_of_lt (Nat.sub_le _ _) t.isLt)).1 := by
  rw [Dat.before_out_traj _ 3 rfl (fun _ _ => rfl)
      (fun t _ hi _ => absurd (hi.symm.trans (out_live t)) (by decide)) t.val t rfl d,
    if_neg (by rw [out_kept t h]; exact Bool.false_ne_true)]
  dsimp only [decDat]

/-- What the decode body starts from at point `t`, window by window, -/
def decPre (c : Dev nD) (t : Fin cfg1.N) : sProp 𝕄 :=
  iprop((decDat V c).Φ t.castSucc ∗ (decDat V c).owesAt () t.castSucc
    ∗ (∃ d, owns (c : Thread nD τ) (st1_0 t) fullShare ((decDat V c).before 0 t d))
    ∗ (∃ d, owns (c : Thread nD τ) (st1_1 t) fullShare ((decDat V c).before 1 t d))
    ∗ (∃ d, owns (c : Thread nD τ) (st1_2 t) fullShare ((decDat V c).before 2 t d))
    ∗ (∃ d, owns (c : Thread nD τ) (st1_3 t) fullShare ((decDat V c).before 3 t d)))

/-- and what it ends with. -/
def decPost (c : Dev nD) (t : Fin cfg1.N) : sProp 𝕄 :=
  iprop((decDat V c).Φ t.succ ∗ (decDat V c).owesAt () t.succ
    ∗ (decDat V c).leavesExact 0 t ∗ (decDat V c).leavesExact 1 t ∗ (decDat V c).leavesExact 2 t
    ∗ (decDat V c).leavesExact 3 t)

theorem dec_leaves (c : Dev nD) (w : Fin cfg1.W) (t : Fin cfg1.N) (h : cfg1.idle w (grid1.coords t) = false) :
    (decDat V c).leavesExact w t
      = owns (c : Thread nD τ) ((cfg1.win w).stage (cfg1.slots t w)) fullShare ((decDat V c).after w t) := by
  unfold Dat.leavesExact; rw [h]

set_option maxHeartbeats 2000000 in
/-- The decode body at any point of the grid. -/
theorem dec_body (c : Dev nD) (t : Fin cfg1.N) :
    decPre V c t ⊢ wp frame (wpE (defs₀ (F := F)) Variants.none c none) Set.univ (bodyAt1 t) (fun _ => decPost V c t) := by
  unfold decPre decPost bodyAt1
  simp only [dec_before0, dec_before1, dec_before2]
  rw [show (decDat V c).owesAt () t.succ = (decDat V c).owesAt () t.castSucc from rfl,
    show (decDat V c).Φ t.succ = iprop(owns (c : Thread nD τ) thrM fullShare (decAt V c t.val t.isLt).2 ∗ aside c) from rfl,
    show (decDat V c).Φ t.castSucc = decPhi V c t.val (Nat.le_of_lt t.isLt) from rfl,
    dec_leaves V c 0 t rfl, dec_leaves V c 1 t rfl, dec_leaves V c 2 t rfl, dec_leaves V c 3 t (out_live t),
    dec_after0, dec_after1, dec_after2, dec_after3]
  by_cases h : t.val % 8 = 0
  · rw [decAt_first V c t h]
    unfold decFirst
    refine (sep_mono_left (decPhi_some V c _ _)).trans ?_
    iintro ⟨⟨HS, Ha⟩, Ho, ⟨%d0, H0⟩, ⟨%d1, H1⟩, ⟨%d2, H2⟩, ⟨%d3, H3⟩⟩
    iapply (dec_first c Set.univ (grid1.coords t) _ _ _ _ _ _ _ _ _ _ ((cond1_iff t).mpr h) ((cond2_iff t).mpr h)
      (fun e => (cond3_iff t).mp e h) (decBlk V c 0 t) (decBlk V c 1 t) (decBlk V c 2 t) _)
    isplitl [H0]; · iexact H0
    isplitl [H1]; · iexact H1
    isplitl [H2]; · iexact H2
    isplitl [H3]; · iexists _; iexact H3
    isplitl [HS]; · iexact HS
    iintro ⟨H0, H1, H2, H3, HS⟩
    isplitl [HS Ha]
    · isplitl [HS]; · iexact HS
      iexact Ha
    isplitl [Ho]; · iexact Ho
    isplitl [H0]; · iexact H0
    isplitl [H1]; · iexact H1
    isplitl [H2]; · iexact H2
    iexact H3
  · rw [decAt_later V c t h, decPhi_pos V c _ _ (fun e => h (by rw [e]))]
    simp only [dec_before3 V c t h]
    unfold decNext
    iintro ⟨⟨HS, Ha⟩, Ho, ⟨%d0, H0⟩, ⟨%d1, H1⟩, ⟨%d2, H2⟩, ⟨%d3, H3⟩⟩
    iapply (dec_later c Set.univ (grid1.coords t) _ _ _ _ _ _ _ _ _ _ (fun e => h ((cond1_iff t).mp e))
      (fun e => h ((cond2_iff t).mp e)) ((cond3_iff t).mpr h) (decBlk V c 0 t) (decBlk V c 1 t) (decBlk V c 2 t) _ _ _)
    isplitl [H0]; · iexact H0
    isplitl [H1]; · iexact H1
    isplitl [H2]; · iexact H2
    isplitl [H3]; · iexact H3
    isplitl [HS]; · iexact HS
    iintro ⟨H0, H1, H2, H3, HS⟩
    isplitl [HS Ha]
    · isplitl [HS]; · iexact HS
      iexact Ha
    isplitl [Ho]; · iexact Ho
    isplitl [H0]; · iexact H0
    isplitl [H1]; · iexact H1
    isplitl [H2]; · iexact H2
    iexact H3

theorem dec_row (t : Fin cfg1.N) : defs₀ (F := F) .tc cfg1.body (cfg1.bodyArgs t (cfg1.slots t)) = bodyAt1 t := by
  unfold defs₀; rw [Defs.onTc_tc]

/-- The pipeline's obligation on the decode body. -/
theorem dec_obligation (c : Dev nD) : BodyObligation (decDat (F := F) V c) (defs₀ (F := F)) Variants.none () Set.univ := fun t => by
  rw [bigSep_W1, bigSep_W1, dec_row]
  exact triple_restated (dec_body V c t) rfl .rfl fun _ => .rfl

end Cert.KernelIdeal.Run

end
-- ==== Proof.KernelIdeal.Launch.lean ====
module

public import proofs.«01_k».proof.Proof.KernelIdeal.Encode
public import proofs.«01_k».proof.Proof.KernelIdeal.Decode
public import proofs.«01_k».proof.Proof.Gen.KernelIdeal.Launch
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic

@[expose] public section

set_option maxRecDepth 16384

noncomputable section

/-! The whole run: two reshapes, the encode call, the decode call. -/

namespace Cert.KernelIdeal.Run

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The five arguments of the program. -/
abbrev inputs : List (Ref sig .tc) := [main_arg0, main_arg1, main_arg2, main_arg3, main_arg4]

theorem reshapes_fresh : (hostOps0 : List (HloOp τ sig (Elt F))).Forall fun op => op.fresh = ∅ := by
  simp only [List.Forall]; repeat' constructor
/-- The two reshapes write the two rows and nothing else. -/
abbrev rows : List (Ref sig .tc) := [main_v0, main_v1]
theorem reshapes_writes : (hostOps0 : List (HloOp τ sig (Elt F))).Forall fun op => op.writes ⊆ (rows.map (Proc.devRef (τ := τ) .tc)).toFinset :=
  StableHlo.forall_writes_sub_of_map rfl
theorem inputs_rows : ∀ a ∈ inputs, a ∉ rows := ListAll.forall_mem_of_all_decide (by decide +kernel)
theorem inputs_enc : ∀ a ∈ inputs, ∀ w : Fin cfg0.W, Pipeline.arrRef spec0 w = a → (cfg0.win w).isOut = false :=
  ListAll.forall_mem_of_all_decide (by decide +kernel)
theorem inputs_dec : ∀ a ∈ inputs, ∀ w : Fin cfg1.W, Pipeline.arrRef spec1 w = a → (cfg1.win w).isOut = false :=
  ListAll.forall_mem_of_all_decide (by decide +kernel)

/-- The contents at launch, -/
abbrev atStart : Dev nD → Valuation τ sig (Elt F) := fun c b => m ((c : Dev nD), b)
/-- after the two reshapes, -/
abbrev atEnc : Dev nD → Valuation τ sig (Elt F) := fun c => StableHlo.after hostOps0 (atStart m c)
abbrev encIn : Bufs F := fun c b => atEnc m c b
/-- after the encode call, -/
def atDec (c : Dev nD) : Valuation τ sig (Elt F) :=
  Pipeline.withArrays spec0 c (atEnc m c) fun w => (encDat (encIn m) c).arrAt w cfg0.N
abbrev decIn : Bufs F := fun c b => atDec m c b
/-- and after the decode call. -/
def atEnd (c : Dev nD) : Valuation τ sig (Elt F) :=
  Pipeline.withArrays spec1 c (atDec m c) fun w => (decDat (decIn m) c).arrAt w cfg1.N
abbrev endOut : Bufs F := fun c b => atEnd m c b

theorem atEnc_of (c : Dev nD) (r : Ref sig .tc) (h : r ∉ rows) : atEnc m c (Proc.devRef .tc r) = m ((c : Thread nD τ).loc r) :=
  StableHlo.after_of_writes_sub hostOps0 _ reshapes_writes h

theorem atDec_arr (c : Dev nD) (w : Fin cfg0.W) :
    atDec m c (Proc.devRef .tc (Pipeline.arrRef spec0 w)) = (encDat (encIn m) c).arrAt w cfg0.N := by
  unfold atDec; exact Pipeline.withArrays_arr spec0 launch0.win.arr_inj c _ _ w
theorem atDec_rest (c : Dev nD) (b : Ref sig .tc) (hb : ∀ w, Pipeline.arrRef spec0 w ≠ b) :
    atDec m c (Proc.devRef .tc b) = atEnc m c (Proc.devRef .tc b) := by
  unfold atDec; exact Pipeline.withArrays_of_ne spec0 c _ _ b hb
/-- The encode call changes its output array alone. -/
theorem atDec_of (c : Dev nD) (r : Ref sig .tc) (h : ∀ w : Fin cfg0.W, Pipeline.arrRef spec0 w = r → (cfg0.win w).isOut = false) :
    atDec m c (Proc.devRef .tc r) = atEnc m c (Proc.devRef .tc r) := by
  by_cases hw : ∃ w : Fin cfg0.W, Pipeline.arrRef spec0 w = r
  · obtain ⟨w, rfl⟩ := hw
    exact (atDec_arr m c w).trans (((encDat (encIn m) c).arrAt_in w (h w rfl) _).trans (encDat_A (encIn m) c w))
  · exact atDec_rest m c r fun w e => hw ⟨w, e⟩
theorem atDec_out (c : Dev nD) (w : Fin cfg0.W) : (encDat (encIn m) c).arrAt w cfg0.N = decIn m c (Pipeline.arrRef spec0 w) :=
  (atDec_arr m c w).symm
theorem atDec_else (c : Dev nD) : ∀ b, b ∉ Finset.univ.image (Pipeline.arrRef spec0) → decIn m c b = encIn m c b :=
  fun b hb => atDec_rest m c b fun w e => hb (Finset.mem_image.mpr ⟨w, Finset.mem_univ _, e⟩)

theorem atEnd_arr (c : Dev nD) (w : Fin cfg1.W) :
    atEnd m c (Proc.devRef .tc (Pipeline.arrRef spec1 w)) = (decDat (decIn m) c).arrAt w cfg1.N := by
  unfold atEnd; exact Pipeline.withArrays_arr spec1 launch1.win.arr_inj c _ _ w
theorem atEnd_rest (c : Dev nD) (b : Ref sig .tc) (hb : ∀ w, Pipeline.arrRef spec1 w ≠ b) :
    atEnd m c (Proc.devRef .tc b) = atDec m c (Proc.devRef .tc b) := by
  unfold atEnd; exact Pipeline.withArrays_of_ne spec1 c _ _ b hb
/-- The decode call changes its output array alone. -/
theorem atEnd_of (c : Dev nD) (r : Ref sig .tc) (h : ∀ w : Fin cfg1.W, Pipeline.arrRef spec1 w = r → (cfg1.win w).isOut = false) :
    atEnd m c (Proc.devRef .tc r) = atDec m c (Proc.devRef .tc r) := by
  by_cases hw : ∃ w : Fin cfg1.W, Pipeline.arrRef spec1 w = r
  · obtain ⟨w, rfl⟩ := hw
    exact (atEnd_arr m c w).trans (((decDat (decIn m) c).arrAt_in w (h w rfl) _).trans (decDat_A (decIn m) c w))
  · exact atEnd_rest m c r fun w e => hw ⟨w, e⟩
theorem atEnd_out (c : Dev nD) (w : Fin cfg1.W) : (decDat (decIn m) c).arrAt w cfg1.N = endOut m c (Pipeline.arrRef spec1 w) :=
  (atEnd_arr m c w).symm
theorem atEnd_else (c : Dev nD) : ∀ b, b ∉ Finset.univ.image (Pipeline.arrRef spec1) → endOut m c b = decIn m c b :=
  fun b hb => atEnd_rest m c b fun w e => hb (Finset.mem_image.mpr ⟨w, Finset.mem_univ _, e⟩)

theorem atEnd_inputs (c : Dev nD) (a : Ref sig .tc) (h : a ∈ inputs) : atEnd m c (Proc.devRef .tc a) = m ((c : Thread nD τ).loc a) :=
  (atEnd_of m c a (inputs_dec a h)).trans ((atDec_of m c a (inputs_enc a h)).trans (atEnc_of m c a (inputs_rows a h)))

/-- No pipeline prefetches a table. -/
abbrev tables : (p : Fin 2) → (pcfgs (F := F) p).Adm := fun p => (cfgs p).toPCfg_adm
/-- Both calls' proof data, each from the contents it is entered at. -/
def bothDats : (p : Fin 2) → (c : Dev nD) → Dat τ (Elt F) Unit ℕ (UR sig nD τ) ℕ (Pipeline.pin (pcfgs (F := F)) tables p) c
  | ⟨0, _⟩ => fun c => encDat (encIn m) c
  | ⟨1, _⟩ => fun c => decDat (decIn m) c
abbrev noLevels : GSem nD τ sig → Finset Unit := fun _ => ∅
abbrev levels : GSem nD τ sig → Unit → ℕ := fun _ _ => 0
/-- What every segment carries beside the buffers: the generator register, and that nothing is owed. -/
abbrev owesNone (c : Dev nD) : sProp 𝕄 := iprop(∃ W, owes (c : Thread nD τ) (0 : CellTallies nD τ sig Unit) W)
abbrev carried (c : Dev nD) : sProp 𝕄 := iprop((∃ r, prngReg c r) ∗ owesNone c)
abbrev heldAt (W : Dev nD → Valuation τ sig (Elt F)) (c : Dev nD) : sProp 𝕄 :=
  StableHlo.held (c : Thread nD τ) (Pipeline.ucRefs τ sig) (W c)
abbrev finished (c : Dev nD) : sProp 𝕄 := iprop(heldAt (atEnd m) c ∗ ∃ r, prngReg c r)

theorem mem_unscoped (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The reshapes as a segment. -/
abbrev reshapeSeg : Pipeline.HostSeg (Name := ℕ) (U := UR sig nD τ) (pcfgs (F := F)) defs₀ Variants.none noLevels levels :=
  Pipeline.HostSeg.ofOps _ _ _ _ _ (Pipeline.ucRefs τ sig) hostOps0
    (fun op h => Pipeline.sub_ucRefs op ((List.forall_iff_forall_mem.mp hostOps0_sub) op h))
    (fun op h => (List.forall_iff_forall_mem.mp reshapes_fresh) op h) (atStart m) carried

set_option backward.isDefEq.respectTransparency.types false in
/-- The encode call as a segment. -/
def encodeSeg : Pipeline.RegionSeg (pcfgs (F := F)) tables (bothDats m) () defs₀ Variants.none noLevels levels 0 where
  win := launch0.win.to₀
  block_pos := launch0.block_pos
  stage_whole := launch0.stage_whole
  K := PEmpty
  osem k := k.elim
  ho := Pipeline.OwnSemFacts.none _
  hbody c := (enc_obligation (encIn m) c).loose
  hwaits := Pipeline.hwaits_of_owed_zero _ _ _ _ noLevels levels 0 fun _ _ => rfl
  pre c := iprop(heldAt (atEnc m) c ∗ carried c)
  post c := iprop(heldAt (atDec m) c ∗ carried c)
  X c := iprop(∃ r, prngReg c r)
  Y c := iprop(∃ r, prngReg c r)
  Z c := Pipeline.unscopedRest (Ix := Unit) (Name := ℕ) (U := UR sig nD τ) (Lvl := ℕ) spec0 c (encIn m c)
  hentry c := by
    rw [Pipeline.ownSems0_none]
    have hsplit := Pipeline.arrays_of_unscopedBufs (p := 0) (pcfgs (F := F)) tables (bothDats m) launch0.win launch0.arr_whole c
      ((bothDats m 0 c).share_full fun _ => rfl) (encIn m c) (encDat_A (encIn m) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (bothDats m 0 c).Φ 0 = Pipeline.ΦA spec0 c from rfl]; unfold Pipeline.ΦA
    iintro ⟨Hp, -, Hr⟩
    isplitl [Hr]; · iexact Hr
    iexact Hp
  hout c := by
    rw [Pipeline.ownSems0_none]
    rw [show (bothDats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) tables (Ix := Unit) (Name := ℕ) (U := UR sig nD τ) (Lvl := ℕ)
      launch0.win launch0.arr_whole c (bothDats m) ((bothDats m 0 c).share_full fun _ => rfl)
      (encIn m c) (decIn m c) ((bothDats m 0 c).arrAt · cfg0.N) (atDec_out m c) (atDec_else m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The decode call as a segment. -/
def decodeSeg : Pipeline.RegionSeg (pcfgs (F := F)) tables (bothDats m) () defs₀ Variants.none noLevels levels 1 where
  win := launch1.win.to₀
  block_pos := launch1.block_pos
  stage_whole := launch1.stage_whole
  K := PEmpty
  osem k := k.elim
  ho := Pipeline.OwnSemFacts.none _
  hbody c := (dec_obligation (decIn m) c).loose
  hwaits := Pipeline.hwaits_of_owed_zero _ _ _ _ noLevels levels 1 fun _ _ => rfl
  pre c := iprop(heldAt (atDec m) c ∗ carried c)
  post c := iprop(finished m c ∗ owesNone c)
  X c := iprop(∃ r, prngReg c r)
  Y c := iprop(∃ r, prngReg c r)
  Z c := Pipeline.unscopedRest (Ix := Unit) (Name := ℕ) (U := UR sig nD τ) (Lvl := ℕ) spec1 c (decIn m c)
  hentry c := by
    rw [Pipeline.ownSems0_none]
    have hsplit := Pipeline.arrays_of_unscopedBufs (p := 1) (pcfgs (F := F)) tables (bothDats m) launch1.win launch1.arr_whole c
      ((bothDats m 1 c).share_full fun _ => rfl) (decIn m c) (decDat_A (decIn m) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (decPhi_in (decIn m) c)
    unfold Pipeline.ΦA
    iintro ⟨Hp, -, Hr⟩
    isplitl [Hr]; · iexact Hr
    iexact Hp
  hout c := by
    rw [Pipeline.ownSems0_none]
    refine (decPhi_out (decIn m) c cfg1.N (Nat.le_refl _)).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) tables (Ix := Unit) (Name := ℕ) (U := UR sig nD τ) (Lvl := ℕ)
      launch1.win launch1.arr_whole c (bothDats m) ((bothDats m 1 c).share_full fun _ => rfl)
      (decIn m c) (endOut m c) ((bothDats m 1 c).arrAt · cfg1.N) (atEnd_out m c) (atEnd_else m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

abbrev segments : List (Pipeline.Seg (pcfgs (F := F)) tables (bothDats m) () defs₀ Variants.none noLevels levels) :=
  [ .host (reshapeSeg m), .region (encodeSeg m), .region (decodeSeg m) ]
theorem main_segments (c : Dev nD) : main (F := F) c = Pipeline.Seg.run (segments m) := (main_chain c).trans (by chain_rfl)

theorem sems_scoped : ∀ sm : SemLoc sig, sm.isScoped .tc = true := by decide

set_option backward.isDefEq.respectTransparency.types false in
/-- From any memory with the counters at zero every execution ends without a fault, the result array at what the
    decode call leaves of it, the arguments as they were, every counter at zero. -/
theorem run : θ_run defs (onTc (τ := τ) (main (F := F))) ⟨m, fun _ => 0, ρ⟩ (fun r => (∀ c : Dev nD,
      r.2.mem ((c.tc : Thread nD τ).loc main_v3) = (decDat (decIn m) c).arrAt 3 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  Pipeline.θ_run_regions_kit_sems (pcfgs (F := F)) tables (bothDats m) () cellOf_inj emb₁ defs₀ Variants.none noLevels levels m ρ main (segments m)
    (fun c Q => by rw [main_segments m c])
    (by simp only [segments, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(heldAt (atStart m) c ∗ carried c)) (Tₙ := finished m)
    (hch := ⟨fun _ => .rfl, fun _ => .rfl, fun _ => .rfl, fun _ => .rfl⟩)
    (hinit := by
      refine Pipeline.initEach noLevels levels fun c => ?_
      rw [show unscopedBufs c (fun b => m ((c : Thread nD τ).loc b)) = heldAt (atStart m) c
        from Pipeline.unscopedBufs_held c (atStart m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = atEnd m c b)
    (hfin := fun c s' => by
      iintro ⟨⟨Hh, -⟩, HSI⟩
      unfold heldAt StableHlo.held
      imodintro
      iapply (pointsTo_read_all (Pipeline.ucRefs τ sig) (fun b => (((c : Thread nD τ)).1, b)) (atEnd m c) s')
      isplitl [Hh] <;> iassumption)
    (hQ := fun s h hz => ⟨(fun c =>
      ⟨(h c _ (mem_unscoped main_v3 (by decide))).trans (atEnd_arr m c 3),
       (h c _ (mem_unscoped main_arg0 (by decide))).trans (atEnd_inputs m c main_arg0 (by decide)),
       (h c _ (mem_unscoped main_arg1 (by decide))).trans (atEnd_inputs m c main_arg1 (by decide)),
       (h c _ (mem_unscoped main_arg2 (by decide))).trans (atEnd_inputs m c main_arg2 (by decide)),
       (h c _ (mem_unscoped main_arg3 (by decide))).trans (atEnd_inputs m c main_arg3 (by decide)),
       (h c _ (mem_unscoped main_arg4 (by decide))).trans (atEnd_inputs m c main_arg4 (by decide))⟩), funext fun g => hz g (.inr (sems_scoped g.2))⟩)

/-- The arguments and the counters alone. -/
theorem unchanged : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c => (h.1 c).2, h.2⟩) (run m ρ)

end Cert.KernelIdeal.Run

end
-- ==== Proof.Reference.lean ====
module

public import proofs.«01_k».proof.Proof.Gen.ReferenceIdeal.Run
public import Idealize.ShloMosaic.Lib.Quiescent

@[expose] public section

noncomputable section

/-! The reference leaves its arguments as they were, and it declares no counter. -/

namespace Cert.ReferenceIdeal.Run

open Cert.ReferenceIdeal.Gen
open Idealize.ShloMosaic Idealize.ShloMosaic.TcCoe Idealize.SL.Sem

variable {F : FTy → Type} [FloatOps F]

/-- The arguments and the counters after a run of the reference. -/
theorem unchanged (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun r h => ⟨fun c => (h c).2, sem_eq_zero_of_no_sems (by decide) r.2⟩) (Value.run m ρ)

end Cert.ReferenceIdeal.Run

end
-- ==== Proof.Rank.lean ====
module

public import Idealize.ShloMosaic.PureOps.Ideal.Laws
public import Idealize.ShloMosaic.Lib.SortFacts

@[expose] public section

noncomputable section

/-! One row of extended reals: its 32 greatest entries found in two ways.

    * The reference ranks the row by a stable sort, greater first, and takes the first 32.
    * The kernel starts at `⊤` and takes, 32 times, the greatest entry below the current value; what it
      ends at is a threshold, and it keeps the entries that reach the threshold.

    When the 33 greatest entries differ and none is `⊤`, both keep the same entries. -/

namespace Cert.Rank

open Idealize.ShloMosaic
open scoped BigOperators

variable {n : ℕ} (r : Fin n → EReal)

/-- Whether entry `k` comes strictly before entry `k'`: it is greater. -/
abbrev ahead (k k' : Fin n) : Bool := FloatOps.cmpfTotal (F := Ideal) (φ := .f32) .gt (r k) (r k') == 1#1

/-- The position of the entry of rank `k` (rank 0 is the greatest; equal entries stay in the row's order). -/
abbrev pos (k : Fin n) : Fin n := sortedFrom (ahead r) k

theorem ahead_iff (k k' : Fin n) : ahead r k k' = true ↔ r k' < r k := by
  show (BitVec.ofBool (decide (r k' < r k)) == 1#1) = true ↔ _
  by_cases h : r k' < r k <;> simp [h]

theorem ahead_false (k k' : Fin n) : ahead r k k' = false ↔ r k ≤ r k' := by
  rw [← not_lt, ← ahead_iff, Bool.not_eq_true]

/-- Later ranks are no greater. -/
theorem antitone {i j : Fin n} (h : i ≤ j) : r (pos r j) ≤ r (pos r i) := by
  rcases h.eq_or_lt with rfl | h
  · exact le_rfl
  · rw [← ahead_false]
    refine sortedFrom_noInversion (ahead r) (ahead r) (fun a b hab => ?_) (fun _ _ h => h)
      (fun a b c hab hbc => ?_) i j h
    · rw [ahead_iff] at hab; rw [ahead_false]; exact hab.le
    · rw [ahead_false] at hab hbc ⊢; exact hab.trans hbc

/-- The greatest entry below `cur` (`⊥` if there is none). -/
def below (cur : EReal) : EReal := (Finset.univ : Finset (Fin n)).fold max ⊥ fun i => if r i < cur then r i else ⊥

/-- An entry below `cur` that no entry below `cur` exceeds is what `below` finds. -/
theorem below_eq {cur : EReal} {i : Fin n} (hi : r i < cur) (hmax : ∀ j, r j < cur → r j ≤ r i) : below r cur = r i := by
  refine le_antisymm ?_ ?_
  · refine (Finset.fold_max_le _).mpr ⟨bot_le, fun j _ => ?_⟩
    split
    · exact hmax j ‹_›
    · exact bot_le
  · exact Finset.le_fold_max _ |>.mpr (.inr ⟨i, Finset.mem_univ _, by rw [if_pos hi]⟩)

/-- The row's `m + 1` greatest entries strictly decrease, and the greatest is not `⊤`. -/
structure Distinct (m : ℕ) (hm : m < n) : Prop where
  lt_top : r (pos r ⟨0, by omega⟩) < ⊤
  step : ∀ k (h : k < m), r (pos r ⟨k + 1, by omega⟩) < r (pos r ⟨k, by omega⟩)

variable {r}

/-- `j + 1` times the greatest entry below the last: the entry of rank `j`. -/
theorem iterate_below {m : ℕ} {hm : m < n} (d : Distinct r m hm) (j : ℕ) (hj : j < m) :
    (below r)^[j + 1] ⊤ = r (pos r ⟨j, by omega⟩) := by
  induction j with
  | zero =>
    refine below_eq r d.lt_top fun i _ => ?_
    obtain ⟨k, rfl⟩ := sortedFrom_surjective (ahead r) i
    exact antitone r (Fin.le_def.mpr (Nat.zero_le _))
  | succ j ih =>
    rw [Function.iterate_succ_apply', ih (by omega)]
    refine below_eq r (d.step j (by omega)) fun i hi => ?_
    obtain ⟨k, rfl⟩ := sortedFrom_surjective (ahead r) i
    refine antitone r (Fin.le_def.mpr ?_)
    by_contra hk
    exact absurd hi (not_lt.mpr (antitone r (Fin.le_def.mpr (by simp at hk ⊢; omega))))

/-- An entry reaches the threshold exactly when its rank is below `m`. -/
theorem reaches_iff {m : ℕ} {hm : m + 1 < n} (d : Distinct r (m + 1) hm) (k : Fin n) :
    r (pos r ⟨m, by omega⟩) ≤ r (pos r k) ↔ k.val < m + 1 := by
  constructor
  · intro h
    by_contra hk
    exact absurd h (not_le.mpr ((antitone r (i := ⟨m + 1, hm⟩) (Fin.le_def.mpr (by simp; omega))).trans_lt (d.step m (by omega))))
  · intro h
    exact antitone r (Fin.le_def.mpr (by simp; omega))

/-- A row's entries that reach the threshold, each times its weight, summed over the whole row: the sum
    over the first `m + 1` ranks. -/
theorem sum_reaching {m : ℕ} {hm : m + 1 < n} (d : Distinct r (m + 1) hm) (w : Fin n → EReal) :
    ∑ i, (if (below r)^[m + 1] ⊤ ≤ r i then r i else 0) * w i
      = ∑ k : Fin (m + 1), r (pos r (k.castLE hm.le)) * w (pos r (k.castLE hm.le)) := by
  rw [iterate_below d m (by omega)]
  symm
  refine Fintype.sum_of_injective (fun k : Fin (m + 1) => pos r (k.castLE hm.le))
    (fun a b h => Fin.castLE_injective _ (sortedFrom_injective (ahead r) h)) _ _ (fun i hi => ?_) (fun k => ?_)
  · obtain ⟨k, rfl⟩ := sortedFrom_surjective (ahead r) i
    rw [if_neg, zero_mul]
    rw [reaches_iff d]
    exact fun hk => hi ⟨⟨k.val, hk⟩, rfl⟩
  · rw [if_pos ((reaches_iff d _).mpr k.isLt)]

/-- A sum over `a * b` entries, taken in `a` runs of `b`. -/
theorem sum_runs (a b : ℕ) (f : Fin (a * b) → EReal) :
    ∑ i, f i = ∑ h : Fin a, ∑ k : Fin b, f ⟨b * h.val + k.val, by
      have h1 := h.isLt; have h2 := k.isLt
      calc b * h.val + k.val < b * h.val + b := by omega
        _ = b * (h.val + 1) := by ring
        _ ≤ b * a := Nat.mul_le_mul_left _ h1
        _ = a * b := Nat.mul_comm _ _⟩ := by
  rw [← Equiv.sum_comp finProdFinEquiv, Fintype.sum_prod_type]
  refine Finset.sum_congr rfl fun h _ => Finset.sum_congr rfl fun k _ => congrArg f (Fin.ext ?_)
  simp [finProdFinEquiv, Nat.add_comm]

end Cert.Rank

end
-- ==== Proof.TopK.lean ====
module

public import Idealize.ShloMosaic.Lib.ValueIdxCore
public import Idealize.ShloMosaic.Lib.Pipeline.Value
public import Idealize.ShloMosaic.Lib.StableHlo.Predicate
public import proofs.«01_k».proof.Proof.Rank

@[expose] public section

noncomputable section

/-! What the host operations of the reference and of the precondition hold at an index: the top-k of a matrix's
    rows, the conjunction of an array of bits, and the rows a gather takes from a table. -/

namespace Cert.HostOps

open Idealize.ShloMosaic Idealize.ShloMosaic.ValueIdx Cert.Rank

/-! ## Top-k along the rows -/

section TopK
variable {M N K : ℕ} (x : (⟨2, ![M, N]⟩ : Shape).Idx → EReal) (h : (⟨2, ![M, N]⟩ : Shape).Slices (fun _ => 0) ⟨2, ![M, K]⟩)
  (hK : K ≤ N) (i : Fin M) (k : Fin K)

theorem along_row (i : Fin M) (j k : Fin N) : Shape.Idx.along (s := ⟨2, ![M, N]⟩) (ix2 i j) 1 k = ix2 i k := by
  funext a
  match a with
  | ⟨0, _⟩ => exact Function.update_of_ne (Fin.ne_of_val_ne Nat.zero_ne_one) _ _
  | ⟨1, _⟩ => exact Function.update_self _ _ _

/-- The rows sorted, greater first, together with each entry's column. -/
abbrev sorted : ((⟨2, ![M, N]⟩ : Shape).Idx → EReal) × IVec ⟨2, ![M, N]⟩ 32 :=
  Host.sort2 ⟨2, ![M, N]⟩ 1 (fun l r => FloatOps.cmpfTotal (F := Ideal) (φ := .f32) .gt l.1 r.1) x
    (fun i => if hd : 1 < (⟨2, ![M, N]⟩ : Shape).rank then iotaInDim ⟨2, ![M, N]⟩ 32 ⟨1, hd⟩ i else 0#32)

/-- The `k`-th value of row `i` is the entry of rank `k`. -/
theorem topK_value : (Host.topK ⟨2, ![M, K]⟩ 1 (FloatOps.cmpfTotal (F := Ideal) (φ := .f32) .gt) x h).1 (ix2 i k)
    = x (ix2 i (pos (fun j => x (ix2 i j)) (k.castLE hK))) := by
  change extractStridedSlice ⟨2, ![M, K]⟩ (fun _ => 0) (sorted x).1 h (ix2 i k) = _
  refine (extractStridedSlice_apply _ _ h (ix2 i k) (ix2 i (k.castLE hK)) fun a => ?_).trans ?_
  · match a with
    | ⟨0, _⟩ => exact (Nat.zero_add _).symm
    | ⟨1, _⟩ => exact (Nat.zero_add _).symm
  · refine (congrFun (congrArg Prod.fst (dif_pos (show 1 < (⟨2, ![M, N]⟩ : Shape).rank from Nat.lt_succ_self 1))) _).trans ?_
    refine (congrArg x (along_row i _ _)).trans ?_
    refine congrArg (fun p => x (ix2 i p)) ?_
    refine congrArg (fun b => sortedFrom b (k.castLE hK)) ?_
    funext p q
    exact congrArg₂ (fun u v => FloatOps.cmpfTotal (F := Ideal) (φ := .f32) .gt (x u) (x v) == 1#1) (along_row i _ p) (along_row i _ q)

/-- The `k`-th index of row `i` is the position of the entry of rank `k`, as a word. -/
theorem topK_index : (Host.topK ⟨2, ![M, K]⟩ 1 (FloatOps.cmpfTotal (F := Ideal) (φ := .f32) .gt) x h).2 (ix2 i k)
    = BitVec.ofNat 32 (pos (fun j => x (ix2 i j)) (k.castLE hK)).val := by
  change extractStridedSlice ⟨2, ![M, K]⟩ (fun _ => 0) (sorted x).2 h (ix2 i k) = _
  refine (extractStridedSlice_apply _ _ h (ix2 i k) (ix2 i (k.castLE hK)) fun a => ?_).trans ?_
  · match a with
    | ⟨0, _⟩ => exact (Nat.zero_add _).symm
    | ⟨1, _⟩ => exact (Nat.zero_add _).symm
  · refine (congrFun (congrArg Prod.snd (dif_pos (show 1 < (⟨2, ![M, N]⟩ : Shape).rank from Nat.lt_succ_self 1))) _).trans ?_
    dsimp only
    refine (dif_pos (show 1 < (⟨2, ![M, N]⟩ : Shape).rank from Nat.lt_succ_self 1)).trans ?_
    refine congrArg (fun p : Fin N => BitVec.ofNat 32 p.val) ?_
    refine (Function.update_self _ _ _).trans ?_
    refine congrArg (fun b => sortedFrom b (k.castLE hK)) ?_
    funext p q
    exact congrArg₂ (fun u v => FloatOps.cmpfTotal (F := Ideal) (φ := .f32) .gt (x u) (x v) == 1#1) (along_row i _ p) (along_row i _ q)

end TopK

/-! ## Conjunctions of bits -/

theorem andi_eq_one (a b : BitVec 1) : IntOp.andi a b = 1#1 ↔ a = 1#1 ∧ b = 1#1 := by
  revert a b; decide

theorem foldl_andi_eq_one {ι : Type} (l : List ι) (f : ι → BitVec 1) (b : BitVec 1) :
    l.foldl (fun r n => IntOp.andi r (f n)) b = 1#1 ↔ b = 1#1 ∧ ∀ n ∈ l, f n = 1#1 := by
  induction l generalizing b with
  | nil => simp
  | cons a l ih => rw [List.foldl_cons, ih, andi_eq_one, List.forall_mem_cons, and_assoc]

/-- The conjunction at `j` holds exactly when every element that reduces to `j` does. -/
theorem reduce_andi {s t u : Shape} {axes : List (Fin s.rank)} (x : s.Idx → BitVec 1) (v : u.Idx → BitVec 1)
    (h : s.ReducesTo axes t) (hu : 0 < u.numel) (hv : v (Shape.Idx.first hu) = 1#1) (j : t.Idx) :
    Host.reduce IntOp.andi x v h hu j = 1#1 ↔ ∀ p : s.Idx, h.drop p = j → x p = 1#1 := by
  unfold Host.reduce
  rw [foldl_andi_eq_one]
  constructor
  · rintro ⟨-, H⟩ p hp
    have := H (s.rowMajor p) (List.mem_filter.mpr ⟨List.mem_finRange _, by simpa using hp⟩)
    simpa using this
  · intro H
    exact ⟨hv, fun n hn => H _ (by simpa using (List.mem_filter.mp hn).2)⟩

/-! ## Rows taken from a table -/

section Rows
variable {α : Type} {N D R C w : ℕ} (d : GatherDims ⟨2, ![N, D]⟩ ⟨3, ![R, C, 1]⟩ ⟨3, ![R, C, D]⟩)
  (ho : d.offsetDims = [2]) (hc : d.collapsedSliceDims = [0]) (hob : d.operandBatchingDims = [])
  (hsb : d.startIndicesBatchingDims = []) (hm : d.startIndexMap = [0]) (hi : d.indexVectorDim = 2)
  (hs : d.sliceSizes = ![1, D])

include ho hc hob hsb hm hi hs in
/-- Element `(t, j, e)` of the gather is element `e` of the table's row whose number stands at `(t, j)`, when there
    is a row of that number. -/
theorem gather_row (x : (⟨2, ![N, D]⟩ : Shape).Idx → α) (idx : IVec ⟨3, ![R, C, 1]⟩ w) (y : (⟨3, ![R, C, D]⟩ : Shape).Idx)
    (q : (⟨3, ![R, C, 1]⟩ : Shape).Idx) (hq0 : (q 0).val = (y 0).val) (hq1 : (q 1).val = (y 1).val)
    (p : Fin N) (hp : (idx q).toInt = p.val) (e : Fin D) (he : e.val = (y 2).val) :
    Host.gather d x idx y = x (ix2 p e) := by
  obtain ⟨o, c, b, sb, m, iv, ss, wf⟩ := d
  obtain rfl : o = [2] := ho
  obtain rfl : c = [0] := hc
  obtain rfl : b = [] := hob
  obtain rfl : sb = [] := hsb
  obtain rfl : m = [0] := hm
  obtain rfl : iv = 2 := hi
  obtain rfl : ss = ![1, D] := hs
  unfold Host.gather
  refine congrArg x (funext fun a => Fin.ext ?_)
  show GatherDims.start _ _ idx a + GatherDims.batchCoord _ _ a + GatherDims.offCoord _ _ a = _
  rw [GatherDims.batchCoord_eq_zero _ _ _ List.not_mem_nil, Nat.add_zero]
  have h01 : a = 0 ∨ a = 1 := by
    match a with
    | ⟨0, _⟩ => exact .inl rfl
    | ⟨1, _⟩ => exact .inr rfl
  rcases h01 with rfl | rfl
  · rw [GatherDims.offCoord_eq_zero _ _ _ (fun h => ((GatherDims.mem_sKept _ _).mp h).1 (List.mem_singleton.mpr rfl)), Nat.add_zero]
    refine (dif_pos (List.mem_singleton.mpr rfl)).trans ?_
    have e1 : ∀ z : (⟨3, ![R, C, 1]⟩ : Shape).Idx, (z 0).val = (y 0).val → (z 1).val = (y 1).val → z = q := by
      intro z h0 h1
      funext b; refine Fin.ext ?_
      match b with
      | ⟨0, _⟩ => exact h0.trans hq0.symm
      | ⟨1, _⟩ => exact h1.trans hq1.symm
      | ⟨2, _⟩ => exact congrArg Fin.val (Subsingleton.elim (α := Fin 1) _ _)
    refine (congrArg (fun z => min (idx z).toInt.toNat (N - 1)) (e1 _ rfl rfl)).trans ?_
    show min (idx q).toInt.toNat (N - 1) = p.val
    rw [hp]
    have := p.isLt
    rw [Int.toNat_natCast]; omega
  · refine (congrArg (· + _) (dif_neg fun h => Nat.one_ne_zero (congrArg Fin.val (List.mem_singleton.mp h)))).trans ?_
    exact (Nat.zero_add _).trans he.symm

end Rows

end Cert.HostOps

end
-- ==== Proof.ReferenceValue.lean ====
module

public import proofs.«01_k».proof.Proof.TopK
public import proofs.«01_k».proof.Proof.Gen.ReferenceIdeal.Read

@[expose] public section

noncomputable section

/-! What the reference computes, element by element: each row's 32 greatest logits by rank, each times the row of the
    weights at its column, summed, plus the bias. -/

namespace Cert.ReferenceIdeal.Run

open Idealize.ShloMosaic Idealize.ShloMosaic.ValueIdx Idealize.ShloMosaic.StableHlo Cert.Rank Cert.HostOps Cert.ReferenceIdeal.Read
open scoped BigOperators

/-- The entry of rank `k` among a row's, for `k` below 32. -/
abbrev rank (k : Fin 32) : Fin 16384 := k.castLE (by decide)

/-- The reference's result from its logits. -/
def gathered (L : Vec Ideal S2048x16384 .f32) (w : Vec Ideal S16384x768 .f32) (pb : Vec Ideal S768 .f32) :
    Vec Ideal S2048x768 .f32 :=
  fun i => (∑ k : Fin 32, L (ix2 (i 0) (pos (fun j : Fin 16384 => L (ix2 (i 0) j)) (rank k)))
    * w (ix2 (pos (fun j : Fin 16384 => L (ix2 (i 0) j)) (rank k)) (i 1))) + pb (ix1 (i 1))

section
variable (x0 : Vec Ideal S2048x768 .f32) (x1 : Vec Ideal S16384x768 .f32) (x2 : Vec Ideal S768x16384 .f32)
  (x3 : Vec Ideal S768 .f32) (x4 : Vec Ideal S16384 .f32)

/-- The column of the entry of rank `k` in row `i` of the logits. -/
abbrev column (i : Fin 2048) (k : Fin 32) : Fin 16384 :=
  pos (fun j : Fin 16384 => val_main_v6 (F := Ideal) x0 x2 x3 x4 (ix2 i j)) (rank k)

theorem values_apply (i : Fin 2048) (k : Fin 32) :
    val_main_values (F := Ideal) x0 x2 x3 x4 (ix2 i k) = val_main_v6 (F := Ideal) x0 x2 x3 x4 (ix2 i (column x0 x2 x3 x4 i k)) :=
  topK_value (val_main_v6 (F := Ideal) x0 x2 x3 x4) Facts₀.sliceFits_S2048x16384_S2048x32 (by decide) i k

theorem indices_apply (i : Fin 2048) (k : Fin 32) :
    val_main_indices (F := Ideal) x0 x2 x3 x4 (ix2 i k) = BitVec.ofNat 32 (column x0 x2 x3 x4 i k).val :=
  topK_index (val_main_v6 (F := Ideal) x0 x2 x3 x4) Facts₀.sliceFits_S2048x16384_S2048x32 (by decide) i k

/-- A column's word is not negative, so the wrapped index is the index. -/
theorem wrapped_apply (i : Fin 2048) (k : Fin 32) :
    val_main_call0_v4 (F := Ideal) x0 x2 x3 x4 (ix2 i k) = BitVec.ofNat 32 (column x0 x2 x3 x4 i k).val := by
  rw [val_main_call0_v4_apply, val_main_call0_v1_apply, val_main_call0_v0_apply, val_main_call0_c_apply, indices_apply]
  refine if_neg fun h => ?_
  have h' : IntOp.cmpi .slt (BitVec.ofNat 32 (column x0 x2 x3 x4 i k).val) (BitVec.ofNat 32 0) = 1#1 := h
  exact absurd ((Predicate.slt_ofNat_iff _ 0 (by omega) (by omega)).mp h') (Nat.not_lt_zero _)

theorem start_apply (y : S2048x32x1.Idx) (i : Fin 2048) (k : Fin 32) (hi : i.val = (y 0).val) (hk : k.val = (y 1).val) :
    val_main_call0_v5 (F := Ideal) x0 x2 x3 x4 y = BitVec.ofNat 32 (column x0 x2 x3 x4 i k).val := by
  rw [val_main_call0_v5_apply, show idx_main_call0_v5 y = ix2 i k from ?_, wrapped_apply]
  funext a
  match a with
  | ⟨0, _⟩ => exact Fin.ext hi.symm
  | ⟨1, _⟩ => exact Fin.ext hk.symm

/-- Every index is a row of the weights. -/
theorem inBounds_apply (y : S2048x32x1.Idx) : val_main_call0_v11 (F := Ideal) x0 x2 x3 x4 y = 1#1 := by
  rw [val_main_call0_v11_apply, andi_eq_one, val_main_call0_v7_apply, val_main_call0_v10_apply, val_main_call0_v6_apply,
    val_main_call0_c_2_apply, val_main_call0_v9_apply, val_main_call0_v8_apply, val_main_call0_c_1_apply,
    start_apply x0 x2 x3 x4 y (y 0) (y 1) rfl rfl]
  have hlt := (column x0 x2 x3 x4 (y 0) (y 1)).isLt
  generalize (column x0 x2 x3 x4 (y 0) (y 1)).val = p at hlt
  exact ⟨(Predicate.sle_ofNat_iff 0 p (by omega) (by omega)).mpr (Nat.zero_le _),
    (Predicate.sle_ofNat_iff p 16383 (by omega) (by omega)).mpr (by omega)⟩

theorem allInBounds_apply (y : S2048x32.Idx) : val_main_call0_v12 (F := Ideal) x0 x2 x3 x4 y = 1#1 :=
  (reduce_andi _ _ _ _ (val_main_call0_c_3_apply _) y).mpr fun p _ => inBounds_apply x0 x2 x3 x4 p

/-- The rows taken are the rows of the weights at the columns of the greatest logits. -/
theorem taken_apply (i : Fin 2048) (k : Fin 32) (e : Fin 768) (y : S2048x32x768.Idx) (hi : i.val = (y 0).val)
    (hk : k.val = (y 1).val) (he : e.val = (y 2).val) :
    val_main_v7 (F := Ideal) x0 x1 x2 x3 x4 y = x1 (ix2 (column x0 x2 x3 x4 i k) e) := by
  rw [val_main_v7_apply, val_main_call0_v14_apply, allInBounds_apply]
  refine (if_pos rfl).trans ?_
  have hlt := (column x0 x2 x3 x4 i k).isLt
  refine gather_row gather_S16384x768_S2048x32x1_S2048x32x768_2_0_n_n_0_2_1768 rfl rfl rfl rfl rfl rfl rfl x1 _ y
    (fun a => match a with | ⟨0, _⟩ => i | ⟨1, _⟩ => k | ⟨2, _⟩ => ⟨0, Nat.one_pos⟩) hi hk _ ?_ e he
  rw [start_apply x0 x2 x3 x4 _ i k rfl rfl]
  exact Predicate.toInt_ofNat_small _ (by omega)

/-- The reference's result, from its logits. -/
theorem result_eq : val_main_v11 (F := Ideal) x0 x1 x2 x3 x4 = gathered (val_main_v6 (F := Ideal) x0 x2 x3 x4) x1 x3 := by
  funext i
  rw [val_main_v11_apply, val_main_v8_apply, val_main_v10_apply, val_main_v9_apply]
  refine congrArg₂ (fun u v : EReal => u + v) (Finset.sum_congr rfl fun k _ => ?_) (congrArg x3 ?_)
  · refine congrArg₂ (fun u v : EReal => u * v) ?_ (taken_apply x0 x1 x2 x3 x4 (i 0) k (i 1) _ rfl rfl rfl)
    refine Eq.trans (congrArg _ ?_) (values_apply x0 x2 x3 x4 (i 0) k)
    funext a
    match a with
    | ⟨0, _⟩ => rfl
    | ⟨1, _⟩ => rfl
  · funext a
    match a with
    | ⟨0, _⟩ => rfl

/-- The reference's logits. -/
theorem logits_apply (i : Fin 2048) (j : Fin 16384) : val_main_v6 (F := Ideal) x0 x2 x3 x4 (ix2 i j)
    = (∑ k : Fin 768, (x0 (ix2 i k) - x3 (ix1 k) : EReal) * x2 (ix2 k j)) + x4 (ix1 j) := by
  rw [val_main_v6_apply, val_main_v3_apply, val_main_v5_apply, val_main_v4_apply]
  refine congrArg₂ (fun u v : EReal => u + v) (Finset.sum_congr rfl fun k _ => ?_) (congrArg x4 ?_)
  · rw [val_main_v2_apply, val_main_v1_apply, val_main_v0_apply]
    refine congrArg₂ (fun u v : EReal => u * v) (congrArg₂ (fun u v : EReal => u - v) (congrArg x0 ?_) (congrArg x3 ?_)) (congrArg x2 ?_)
    · funext a
      match a with
      | ⟨0, _⟩ => rfl
      | ⟨1, _⟩ => rfl
    · funext a
      match a with
      | ⟨0, _⟩ => rfl
    · funext a
      match a with
      | ⟨0, _⟩ => rfl
      | ⟨1, _⟩ => rfl
  · funext a
    match a with
    | ⟨0, _⟩ => rfl

end

end Cert.ReferenceIdeal.Run

end
-- ==== Proof.NoTie.lean ====
module

public import proofs.«01_k».proof.Proof.ReferenceValue
public import proofs.«01_k».proof.Proof.Gen.Pre_no_tie

@[expose] public section

noncomputable section

/-! What the precondition says of the reference's logits: in every row the 33 greatest differ and none is `⊤`. -/

namespace Cert.ReferenceIdeal.Run

open Idealize.ShloMosaic Idealize.ShloMosaic.ValueIdx Cert.Rank Cert.HostOps Cert.ReferenceIdeal.Read

theorem cmp_gt (a b : EReal) : FloatOps.cmpf (F := Ideal) (φ := .f32) .ogt a b = 1#1 ↔ b < a := by
  show BitVec.ofBool (decide (b < a)) = 1#1 ↔ _
  by_cases h : b < a <;> simp [h]

theorem cmp_lt (a b : EReal) : FloatOps.cmpf (F := Ideal) (φ := .f32) .olt a b = 1#1 ↔ a < b := by
  show BitVec.ofBool (decide (a < b)) = 1#1 ↔ _
  by_cases h : a < b <;> simp [h]

/-- The 33 greatest entries of each row. -/
abbrev greatest (L : Vec Ideal S2048x16384 .f32) : Vec Ideal Pre_no_tie.S2048x33 .f32 :=
  (Host.topK Pre_no_tie.S2048x33 1 (FloatOps.cmpfTotal (F := Ideal) (φ := .f32) .gt) L
    Pre_no_tie.Facts.sliceFits_S2048x16384_S2048x33).1

theorem greatest_apply (L : Vec Ideal S2048x16384 .f32) (i : Fin 2048) (k : ℕ) (hk : k < 33) :
    greatest L (ix2 i ⟨k, hk⟩) = L (ix2 i (pos (fun j : Fin 16384 => L (ix2 i j)) ⟨k, hk.trans (by decide)⟩)) :=
  topK_value L Pre_no_tie.Facts.sliceFits_S2048x16384_S2048x33 (by decide) i ⟨k, hk⟩

/-- What the precondition asks of the greatest entries: along a row each is greater than the next, and the first of
    each row is less than `⊤`. -/
abbrev ordered (V : Vec Ideal Pre_no_tie.S2048x33 .f32) : IVec Pre_no_tie.S_ 1 :=
  andi
    (Host.reduce IntOp.andi
      (cmpf (F := Ideal) (φ := .f32) .ogt (extractStridedSlice (s := Pre_no_tie.S2048x33) Pre_no_tie.S2048x32 ![0, 0] V Pre_no_tie.Facts.slices_S2048x33_S2048x32_0_0)
        (extractStridedSlice (s := Pre_no_tie.S2048x33) Pre_no_tie.S2048x32 ![0, 1] V Pre_no_tie.Facts.slices_S2048x33_S2048x32_0_1))
      (constantI Pre_no_tie.S_ 1 1#1) Pre_no_tie.Facts.reducesTo_S2048x32_S_d0_1 Pre_no_tie.Facts.h_S_)
    (Host.reduce IntOp.andi
      (cmpf (F := Ideal) (φ := .f32) .olt (shapeCast Pre_no_tie.S2048 (extractStridedSlice (s := Pre_no_tie.S2048x33) Pre_no_tie.S2048x1 ![0, 0] V
          Pre_no_tie.Facts.slices_S2048x33_S2048x1_0_0) Pre_no_tie.Facts.shapeCasts_S2048x1_S2048)
        (broadcastInDim Pre_no_tie.S2048 ![] Pre_no_tie.Facts.bcast_S_S2048 (constant (F := Ideal) Pre_no_tie.S_ .f32 0x7F800000#32)))
      (constantI Pre_no_tie.S_ 1 1#1) Pre_no_tie.Facts.reducesTo_S2048_S_d0 Pre_no_tie.Facts.h_S_)

theorem pre_eq (x0 : Vec Ideal S2048x768 .f32) (x1 : Vec Ideal S16384x768 .f32) (x2 : Vec Ideal S768x16384 .f32)
    (x3 : Vec Ideal S768 .f32) (x4 : Vec Ideal S16384 .f32) :
    Pre_no_tie.fn (F := Ideal) x0 x1 x2 x3 x4 = ordered (greatest (val_main_v6 (F := Ideal) x0 x2 x3 x4)) := by
  unfold Pre_no_tie.fn val_main_v6 val_main_v3 val_main_v5 val_main_v4 val_main_v2 val_main_v1 val_main_v0
  rfl

/-- The precondition on a row of the logits. -/
theorem distinct (x0 : Vec Ideal S2048x768 .f32) (x1 : Vec Ideal S16384x768 .f32) (x2 : Vec Ideal S768x16384 .f32)
    (x3 : Vec Ideal S768 .f32) (x4 : Vec Ideal S16384 .f32)
    (h : Pre_no_tie.fn (F := Ideal) x0 x1 x2 x3 x4 = fun _ => 1#1) (i : Fin 2048) :
    Distinct (fun j : Fin 16384 => val_main_v6 (F := Ideal) x0 x2 x3 x4 (ix2 i j)) 32 (by decide) := by
  rw [pre_eq] at h
  generalize val_main_v6 (F := Ideal) x0 x2 x3 x4 = L at h ⊢
  have h0 := congrFun h (fun a => a.elim0)
  obtain ⟨ha, hb⟩ := (andi_eq_one _ _).mp h0
  rw [reduce_andi _ _ _ _ rfl] at ha hb
  constructor
  · have hi := hb (ix1 i) (funext fun a => a.elim0)
    have hi' := (cmp_lt _ _).mp hi
    rw [shapeCast_apply _ _ (ix1 i) (ix2 i (0 : Fin 1)) ?_,
      extractStridedSlice_apply _ _ _ _ (ix2 i (⟨0, by decide⟩ : Fin 33)) ?_, greatest_apply L i 0 (by decide)] at hi'
    · refine hi'.trans_eq ?_
      show Ideal.ofBits .f32 0x7F800000#32 = ⊤
      simp [Ideal.ofBits, Ideal.ieee]
    · intro a
      match a with
      | ⟨0, _⟩ => exact (Nat.zero_add _).symm
      | ⟨1, _⟩ => rfl
    · rw [Shape.rowMajor_val_one, Shape.rowMajor_val_two]; simp
  · intro k hk
    have hi := (cmp_gt _ _).mp (ha (ix2 i (⟨k, hk⟩ : Fin 32)) (funext fun a => a.elim0))
    rw [extractStridedSlice_apply _ _ _ _ (ix2 i (⟨k + 1, by omega⟩ : Fin 33)) ?_,
      extractStridedSlice_apply _ _ _ _ (ix2 i (⟨k, by omega⟩ : Fin 33)) ?_,
      greatest_apply L i k (by omega), greatest_apply L i (k + 1) (by omega)] at hi
    · exact hi
    · intro a
      match a with
      | ⟨0, _⟩ => exact (Nat.zero_add _).symm
      | ⟨1, _⟩ => exact (Nat.zero_add _).symm
    · intro a
      match a with
      | ⟨0, _⟩ => exact (Nat.zero_add _).symm
      | ⟨1, _⟩ => exact Nat.add_comm _ _

end Cert.ReferenceIdeal.Run

end
-- ==== Proof.KernelIdeal.Payload.lean ====
module

public import proofs.«01_k».proof.Proof.KernelIdeal.Decode
public import proofs.«01_k».proof.Proof.Rank
public import Idealize.ShloMosaic.Lib.MatmulPlain
public import Idealize.ShloMosaic.Lib.Pipeline.Value

@[expose] public section

noncomputable section

/-! What each body computes, read at one row and one column of extended reals. -/

namespace Cert.KernelIdeal.Run

open Cert.KernelIdeal.Gen
open Idealize.ShloMosaic Idealize.ShloMosaic.ValueIdx
open scoped BigOperators

/-- One row copied to every row of a matrix, read at a row and a column. -/
theorem spread_row {m n : ℕ} {α : Type} (x : (⟨2, ![1, n]⟩ : Shape).Idx → α) (h : (⟨2, ![1, n]⟩ : Shape).Broadcasts ⟨2, ![m, n]⟩)
    (a : Fin m) (b : Fin n) : broadcastTo ⟨2, ![m, n]⟩ x h (ix2 a b) = x (ix2 0 b) := by
  refine broadcastTo_apply x h _ _ fun k => ?_
  match k with
  | ⟨0, _⟩ => rfl
  | ⟨1, _⟩ =>
    show b.val = if n = 1 then 0 else b.val
    have := b.isLt
    split <;> omega

/-- One column copied to every column of a matrix, read at a row and a column. -/
theorem spread_col {m n : ℕ} {α : Type} (x : (⟨2, ![m, 1]⟩ : Shape).Idx → α) (h : (⟨2, ![m, 1]⟩ : Shape).Broadcasts ⟨2, ![m, n]⟩)
    (a : Fin m) (b : Fin n) : broadcastTo ⟨2, ![m, n]⟩ x h (ix2 a b) = x (ix2 a 0) := by
  refine broadcastTo_apply x h _ _ fun k => ?_
  match k with
  | ⟨0, _⟩ =>
    show a.val = if m = 1 then 0 else a.val
    have := a.isLt
    split <;> omega
  | ⟨1, _⟩ => rfl

/-- The encode body's block: a row of `x` less the row `pb`, times a column of `WT`, plus `b1` there. -/
theorem encode_apply (x : Vec Ideal S256x768 .f32) (pb : Vec Ideal S1x768 .f32) (wt : Vec Ideal S768x2048 .f32)
    (b1 : Vec Ideal S1x2048 .f32) (a : Fin 256) (b : Fin 2048) :
    k0_pay1 x pb wt b1 (ix2 a b) = (∑ k : Fin 768, (x (ix2 a k) - pb (ix2 0 k)) * wt (ix2 k b)) + b1 (ix2 0 b) := by
  unfold k0_pay1
  simp only [shapeCast_self]
  have hb := spread_row b1 broadcasts_S1x2048_S256x2048 a b
  have hm := Ideal.matmul_plain_apply (M := 256) (K := 768) (N := 2048) (φ₁ := .f32) (φ₂ := .f32) none
    (subf (F := Ideal) x (broadcastTo S256x768 pb broadcasts_S1x768_S256x768)) wt (constant S256x2048 .f32 0x00000000#32) a b
  refine (congrArg₂ (fun u v : EReal => u + v) hm hb).trans ?_
  refine congrArg (· + b1 (ix2 0 b)) ?_
  refine (congrArg (· + _) (Ideal.ofBits_zero_f32)).trans ((zero_add _).trans (Finset.sum_congr rfl fun k _ => ?_))
  refine congrArg (· * wt (ix2 k b)) ?_
  exact congrArg (x (ix2 a k) - ·) (spread_row pb broadcasts_S1x768_S256x768 a k)

/-- The word of −∞ as an extended real. -/
theorem ofBits_neg_inf : Ideal.ofBits .f32 0xFF800000#32 = ⊥ := by simp [Ideal.ofBits, Ideal.ieee]

/-- The word of +∞ as an extended real. -/
theorem ofBits_pos_inf : Ideal.ofBits .f32 0x7F800000#32 = ⊤ := by simp [Ideal.ofBits, Ideal.ieee]

/-- A choice by a decided comparison. -/
theorem choose_if {α : Type} (p : Prop) [Decidable p] (a b : α) :
    Scalar.select (BitVec.ofBool (decide p)) a b = if p then a else b := by
  unfold Scalar.select
  by_cases h : p <;> simp [h]

/-- One round of the threshold's loop: the greatest entry of the row below the value carried. -/
theorem round_apply (x : Vec Ideal S128x16384 .f32) (cur : FVec Ideal S128x1 .f32) (a : Fin 128) :
    k1_pay2 x cur (ix2 a 0) = Rank.below (fun k : Fin 16384 => x (ix2 a k)) (cur (ix2 a 0)) := by
  unfold k1_pay2
  simp only [shapeCast_self]
  refine (shapeCast_apply _ _ (ix2 a 0 : S128x1.Idx) (ix1 a : S128.Idx) ?_).trans ?_
  · rw [Shape.rowMajor_val_one, Shape.rowMajor_val_two]; simp
  refine (Ideal.multiReduction_maximumf_single (a := (1 : Fin S128x16384.rank)) _ _ _ _ _ _).trans ?_
  refine (congrArg (fun b : EReal => Finset.fold max b _ _) ofBits_neg_inf).trans ?_
  unfold Rank.below
  refine Finset.fold_congr fun k _ => ?_
  have hl : (reduces_S128x16384_S128).lift (ix1 a : S128.Idx) k = ix2 a k := by
    funext d; apply Fin.ext
    match d with
    | ⟨0, _⟩ => rfl
    | ⟨1, _⟩ => rfl
  refine (congrArg _ hl).trans ?_
  refine (choose_if (x (ix2 a k) < broadcastTo S128x16384 cur broadcasts_S128x1_S128x16384 (ix2 a k)) _ _).trans ?_
  rw [spread_col cur broadcasts_S128x1_S128x16384 a k]
  rfl

/-- The loop's result is the same round taken 32 times from +∞. -/
theorem threshold_apply (x : Vec Ideal S128x16384 .f32) (a : Fin 128) :
    decThr x (ix2 a 0) = (Rank.below (fun k : Fin 16384 => x (ix2 a k)))^[32] ⊤ := by
  have e : decThr x = (k1_pay2 x)^[32] k1_pay1 := by
    unfold decThr k1_pay3
    simp only [shapeCast_self]
    rw [Scf.fold_eq, List.foldl_const, List.length_finRange]
    rfl
  rw [e]
  have h : ∀ n, (k1_pay2 x)^[n] k1_pay1 (ix2 a 0) = (Rank.below (fun k : Fin 16384 => x (ix2 a k)))^[n] ⊤ := by
    intro n
    induction n with
    | zero => exact ofBits_pos_inf
    | succ n ih => rw [Function.iterate_succ_apply', Function.iterate_succ_apply', round_apply, ih]
  exact h 32

/-- One part of the output: the entries of the row that reach the threshold, each times its weight. -/
theorem part_apply (x : Vec Ideal S128x2048 .f32) (thr : Vec Ideal S128x1 .f32) (w : Vec Ideal S2048x768 .f32) (a : Fin 128) (b : Fin 768) :
    k1_pay4 x thr w (ix2 a b)
      = ∑ k : Fin 2048, (if thr (ix2 a 0) ≤ x (ix2 a k) then x (ix2 a k) else 0) * w (ix2 k b) := by
  unfold k1_pay4
  simp only [shapeCast_self]
  refine (Ideal.matmul_plain_apply (M := 128) (K := 2048) (N := 768) (φ₁ := .f32) (φ₂ := .f32) none _ w _ a b).trans ?_
  refine (congrArg (· + _) (Ideal.ofBits_zero_f32)).trans ((zero_add _).trans (Finset.sum_congr rfl fun k _ => ?_))
  refine congrArg (· * w (ix2 k b)) ?_
  refine (choose_if (broadcastTo S128x2048 thr broadcasts_S128x1_S128x2048 (ix2 a k) ≤ x (ix2 a k)) _ _).trans ?_
  rw [spread_col thr broadcasts_S128x1_S128x2048 a k]
  exact congrArg (fun z : EReal => if thr (ix2 a 0) ≤ x (ix2 a k) then x (ix2 a k) else z) Ideal.ofBits_zero_f32

/-- The first point's block: its part plus the row `pb`. -/
theorem first_apply (x : Vec Ideal S128x2048 .f32) (thr : Vec Ideal S128x1 .f32) (w : Vec Ideal S2048x768 .f32) (pb : Vec Ideal S1x768 .f32)
    (a : Fin 128) (b : Fin 768) : k1_pay5 x thr w pb (ix2 a b) = k1_pay4 x thr w (ix2 a b) + pb (ix2 0 b) := by
  unfold k1_pay5
  simp only [shapeCast_self]
  exact congrArg (k1_pay4 x thr w (ix2 a b) + ·) (spread_row pb broadcasts_S1x768_S128x768 a b)

/-- A later point's block: what stood there plus its part. -/
theorem later_apply (x : Vec Ideal S128x2048 .f32) (thr : Vec Ideal S128x1 .f32) (w : Vec Ideal S2048x768 .f32) (acc : Vec Ideal S128x768 .f32)
    (a : Fin 128) (b : Fin 768) : k1_pay6 x thr w acc (ix2 a b) = acc (ix2 a b) + k1_pay4 x thr w (ix2 a b) := by
  unfold k1_pay6
  simp only [shapeCast_self]
  rfl

end Cert.KernelIdeal.Run

end
-- ==== Proof.KernelIdeal.Logits.lean ====
module

public import proofs.«01_k».proof.Proof.KernelIdeal.Payload
public import Idealize.ShloMosaic.Lib.Pipeline.ValueKit.Geometry

@[expose] public section

set_option maxRecDepth 16384

noncomputable section

/-! The logits the encode call leaves: each of its 64 blocks read at its place in the whole array. -/

namespace Cert.KernelIdeal.Run

open Cert.KernelIdeal.Gen
open Idealize.ShloMosaic Idealize.ShloMosaic.TcCoe Idealize.ShloMosaic.ValueIdx
open scoped BigOperators

variable (V : Bufs Ideal)

/-- Where the blocks of the encode call stand: point `t` is column block `t / 8` of row block `t % 8`. -/
theorem enc_index0 : ∀ t : Fin cfg0.N, win0_0.index t = ![t.val % 8, 0] := (by decide +kernel : ∀ t : Fin grid0.N, _)
theorem enc_index1 : ∀ t : Fin cfg0.N, win0_1.index t = ![0, t.val / 8] := (by decide +kernel : ∀ t : Fin grid0.N, _)
theorem enc_index2 : ∀ t : Fin cfg0.N, win0_2.index t = ![0, t.val / 8] := (by decide +kernel : ∀ t : Fin grid0.N, _)
theorem enc_index3 : ∀ t : Fin cfg0.N, win0_3.index t = ![0, 0] := (by decide +kernel : ∀ t : Fin grid0.N, _)
theorem enc_index4 : ∀ t : Fin cfg0.N, win0_4.index t = ![t.val % 8, t.val / 8] := (by decide +kernel : ∀ t : Fin grid0.N, _)

/-- The logits as one array: a row of `x` less the row `pb`, times a column of `WT`, plus `b1` there. -/
def logits (x : Vec Ideal S2048x768 .f32) (wt : Vec Ideal S768x16384 .f32) (pb : Vec Ideal S1x768 .f32) (b1 : Vec Ideal S1x16384 .f32) :
    Vec Ideal S2048x16384 .f32 := fun i =>
  (∑ k : Fin 768, (x (ix2 (i 0) k) - pb (ix2 0 k)) * wt (ix2 k (i 1))) + b1 (ix2 0 (i 1))

/-- A whole-block load or store changes nothing. -/
theorem encOut_eq (x0 : Vec Ideal S256x768 .f32) (x1 : Vec Ideal S768x2048 .f32) (x2 : Vec Ideal S1x2048 .f32) (x3 : Vec Ideal S1x768 .f32) :
    encOut x0 x1 x2 x3 = k0_pay1 x0 x3 x1 x2 := by
  unfold encOut
  rw [View.ld_unit_zero (S := S256x768) zero2, View.ld_unit_zero (S := S1x768) zero2, View.ld_unit_zero (S := S768x2048) zero2,
    View.ld_unit_zero (S := S1x2048) zero2]
  exact View.canon_unit_zero (S := S256x2048) zero2 _ _

/-- The blocks of the four inputs at point `t`, read at their places in the arrays. -/
theorem encBlk0_apply (c : Dev nD) (t : Fin cfg0.N) (a : Fin 256) (k : Fin 768) (i : Fin 2048) (h : i.val = t.val % 8 * 256 + a.val) :
    encBlk V c 0 t (ix2 a k) = V c main_arg0 (ix2 i k) := by
  unfold encBlk
  blk_ext [enc_index0]
  exact h.symm
theorem encBlk1_apply (c : Dev nD) (t : Fin cfg0.N) (k : Fin 768) (b : Fin 2048) (j : Fin 16384) (h : j.val = t.val / 8 * 2048 + b.val) :
    encBlk V c 1 t (ix2 k b) = V c main_arg2 (ix2 k j) := by
  unfold encBlk
  blk_ext [enc_index1]
  exact h.symm
theorem encBlk2_apply (c : Dev nD) (t : Fin cfg0.N) (b : Fin 2048) (j : Fin 16384) (h : j.val = t.val / 8 * 2048 + b.val) :
    encBlk V c 2 t (ix2 (n0 := 1) 0 b) = V c main_v1 (ix2 (n0 := 1) 0 j) := by
  unfold encBlk
  blk_ext [enc_index2]
  exact h.symm
theorem encBlk3_apply (c : Dev nD) (t : Fin cfg0.N) (k : Fin 768) :
    encBlk V c 3 t (ix2 (n0 := 1) 0 k) = V c main_v0 (ix2 (n0 := 1) 0 k) := by
  unfold encBlk
  blk_ext [enc_index3]

/-- The array the encode call leaves is the logits. -/
theorem encode_array (c : Dev nD) : (encDat V c).arrAt 4 cfg0.N = logits (V c main_arg0) (V c main_arg2) (V c main_v0) (V c main_v1) := by
  refine (encDat V c).arrAt_eq_of_covers 4 _ (by decide +kernel) fun t hf y => ?_
  blk_simp
  rw [enc_after4, encOut_eq]
  obtain ⟨a, b, rfl⟩ : ∃ (a : Fin 256) (b : Fin 2048), y = ix2 a b := ⟨y 0, y 1, eq_ix2 y⟩
  have ht : t.val < 64 := t.isLt
  have e : (win0_4.blk t).view.emb (ix2 a b)
      = ix2 (n0 := 2048) (n1 := 16384) ⟨t.val % 8 * 256 + a.val, by omega⟩ ⟨t.val / 8 * 2048 + b.val, by omega⟩ := by
    blk_ext [enc_index4] <;> rfl
  refine Eq.trans ?_ (congrArg (logits _ _ _ _) e).symm
  rw [encode_apply]
  exact congrArg₂ (fun u v : EReal => u + v) (Finset.sum_congr rfl fun k _ => congrArg₂ (fun u v : EReal => u * v)
    (congrArg₂ (fun u v : EReal => u - v) (encBlk0_apply V c t a k _ rfl) (encBlk3_apply V c t k)) (encBlk1_apply V c t k b _ rfl))
    (encBlk2_apply V c t b _ rfl)

end Cert.KernelIdeal.Run

end
-- ==== Proof.KernelIdeal.Decoded.lean ====
module

public import proofs.«01_k».proof.Proof.KernelIdeal.Payload
public import Idealize.ShloMosaic.Lib.Pipeline.ValueKit.Geometry
public import Idealize.ShloMosaic.Lib.Pipeline.ValueKit.Tiles

@[expose] public section

set_option maxRecDepth 16384

noncomputable section

/-! The output the decode call leaves: eight points add up one row block, and the last one is written back. -/

namespace Cert.KernelIdeal.Run

open Cert.KernelIdeal.Gen
open Idealize.ShloMosaic Idealize.ShloMosaic.TcCoe Idealize.ShloMosaic.ValueIdx
open scoped BigOperators

variable (V : Bufs Ideal)

/-- Where the blocks of the decode call stand: point `t` is part `t % 8` of row block `t / 8`. -/
theorem dec_index0 : ∀ t : Fin cfg1.N, win1_0.index t = ![t.val / 8, 0] := (by decide +kernel : ∀ t : Fin grid1.N, _)
theorem dec_index1 : ∀ t : Fin cfg1.N, win1_1.index t = ![t.val % 8, 0] := (by decide +kernel : ∀ t : Fin grid1.N, _)
theorem dec_index2 : ∀ t : Fin cfg1.N, win1_2.index t = ![0, 0] := (by decide +kernel : ∀ t : Fin grid1.N, _)
theorem dec_index3 : ∀ t : Fin cfg1.N, win1_3.index t = ![t.val / 8, 0] := (by decide +kernel : ∀ t : Fin grid1.N, _)
theorem dec_offset : ∀ t : Fin cfg1.N, k1_off1 (grid1.coords t) = ![0, t.val % 8 * 2048] := (by decide +kernel : ∀ t : Fin grid1.N, _)

/-- The blocks of the three inputs at point `t`, read at their places in the arrays. -/
theorem decBlk0_apply (c : Dev nD) (t : Fin cfg1.N) (a : Fin 128) (j : Fin 16384) (i : Fin 2048) (h : i.val = t.val / 8 * 128 + a.val) :
    decBlk V c 0 t (ix2 a j) = V c main_v2 (ix2 i j) := by
  unfold decBlk
  blk_ext [dec_index0]
  exact h.symm
theorem decBlk1_apply (c : Dev nD) (t : Fin cfg1.N) (k : Fin 2048) (b : Fin 768) (j : Fin 16384) (h : j.val = t.val % 8 * 2048 + k.val) :
    decBlk V c 1 t (ix2 k b) = V c main_arg1 (ix2 j b) := by
  unfold decBlk
  blk_ext [dec_index1]
  exact h.symm
theorem decBlk2_apply (c : Dev nD) (t : Fin cfg1.N) (b : Fin 768) :
    decBlk V c 2 t (ix2 (n0 := 1) 0 b) = V c main_v0 (ix2 (n0 := 1) 0 b) := by
  unfold decBlk
  blk_ext [dec_index2]

/-- The columns a point reads, read at their places in the row block. -/
theorem decCols_apply (t : Fin cfg1.N) (x : Vec Ideal S128x16384 .f32) (a : Fin 128) (k : Fin 2048) (j : Fin 16384)
    (h : j.val = t.val % 8 * 2048 + k.val) : decCols (grid1.coords t) x (ix2 a k) = x (ix2 a j) := by
  unfold decCols
  refine View.ld_unit_apply_of (S := S128x16384) x _ _ _ _ _ fun d => ?_
  match d with
  | ⟨0, _⟩ => exact ((congrArg (· + a.val) (congrFun (dec_offset t) 0)).trans (Nat.zero_add _)).symm
  | ⟨1, _⟩ => exact h.trans (congrArg (· + k.val) (congrFun (dec_offset t) 1)).symm

/-- The threshold of row `i` of the logits `L`. -/
def cut (L : Vec Ideal S2048x16384 .f32) (i : Fin 2048) : EReal := (Rank.below fun k : Fin 16384 => L (ix2 i k))^[32] ⊤

/-- Logit `k` of row `i` if it reaches the row's threshold, times its weight for column `d`. -/
def term (L : Vec Ideal S2048x16384 .f32) (w : Vec Ideal S16384x768 .f32) (i : Fin 2048) (d : Fin 768) (k : Fin 16384) : EReal :=
  (if cut L i ≤ L (ix2 i k) then L (ix2 i k) else 0) * w (ix2 k d)

/-- Part `n` of the output at row `i` and column `d` (none after the eighth). -/
def part (L : Vec Ideal S2048x16384 .f32) (w : Vec Ideal S16384x768 .f32) (i : Fin 2048) (d : Fin 768) (n : ℕ) : EReal :=
  if hn : n < 8 then ∑ k : Fin 2048, term L w i d ⟨2048 * n + k.val, by omega⟩ else 0

/-- The output as one array: the terms of the row summed, plus `pb` there. -/
def decoded (L : Vec Ideal S2048x16384 .f32) (w : Vec Ideal S16384x768 .f32) (pb : Vec Ideal S1x768 .f32) : Vec Ideal S2048x768 .f32 :=
  fun i => (∑ k : Fin 16384, term L w (i 0) (i 1) k) + pb (ix2 0 (i 1))

/-- The eight parts are the whole sum. -/
theorem sum_parts (L : Vec Ideal S2048x16384 .f32) (w : Vec Ideal S16384x768 .f32) (i : Fin 2048) (d : Fin 768) :
    ∑ n ∈ Finset.range 8, part L w i d n = ∑ k : Fin 16384, term L w i d k := by
  rw [Finset.sum_range]
  refine Eq.trans ?_ (Rank.sum_runs 8 2048 (term L w i d)).symm
  refine Finset.sum_congr rfl fun n _ => ?_
  exact dif_pos n.isLt

/-- The threshold column of row block `t / 8`, at its row `a`. -/
theorem thr_apply (c : Dev nD) (t : Fin cfg1.N) (a : Fin 128) (i : Fin 2048) (h : i.val = t.val / 8 * 128 + a.val) :
    decThr (decBlk V c 0 t) (ix2 a 0) = cut (V c main_v2) i := by
  rw [threshold_apply]
  unfold cut
  exact congrArg (fun r : Fin 16384 → EReal => (Rank.below r)^[32] ⊤) (funext fun k => decBlk0_apply V c t a k i h)

/-- The part a point computes, given the threshold column it reads. -/
theorem pay_part (c : Dev nD) (t : Fin cfg1.N) (thr : Vec Ideal S128x1 .f32) (a : Fin 128) (d : Fin 768) (i : Fin 2048)
    (h : i.val = t.val / 8 * 128 + a.val) (hthr : thr (ix2 a 0) = cut (V c main_v2) i) :
    k1_pay4 (decCols (grid1.coords t) (decBlk V c 0 t)) thr (decBlk V c 1 t) (ix2 a d)
      = part (V c main_v2) (V c main_arg1) i d (t.val % 8) := by
  have hn : t.val % 8 < 8 := Nat.mod_lt _ (by decide)
  rw [part_apply, hthr]
  unfold part
  rw [dif_pos hn]
  refine Finset.sum_congr rfl fun k _ => ?_
  have hk := k.isLt
  have e0 : decCols (grid1.coords t) (decBlk V c 0 t) (ix2 a k) = V c main_v2 (ix2 i ⟨2048 * (t.val % 8) + k.val, by omega⟩) :=
    (decCols_apply t (decBlk V c 0 t) a k ⟨2048 * (t.val % 8) + k.val, by omega⟩ (by show 2048 * (t.val % 8) + k.val = t.val % 8 * 2048 + k.val; omega)).trans (decBlk0_apply V c t a _ i h)
  have e1 : decBlk V c 1 t (ix2 k d) = V c main_arg1 (ix2 ⟨2048 * (t.val % 8) + k.val, by omega⟩ d) :=
    decBlk1_apply V c t k d _ (by show 2048 * (t.val % 8) + k.val = t.val % 8 * 2048 + k.val; omega)
  rw [e0, e1]
  rfl

/-- After point `n` of row block `q`: the threshold column, and the first `n + 1` parts with `pb`. -/
theorem decAt_apply (c : Dev nD) (q : ℕ) (hq : q < 16) (a : Fin 128) (i : Fin 2048) (hi : i.val = q * 128 + a.val) :
    ∀ (n : ℕ) (_ : n < 8) (hN : 8 * q + n < cfg1.N),
      (decAt V c (8 * q + n) hN).2 (ix2 a 0) = cut (V c main_v2) i
      ∧ ∀ d : Fin 768, (decAt V c (8 * q + n) hN).1 (ix2 a d)
          = (∑ j ∈ Finset.range (n + 1), part (V c main_v2) (V c main_arg1) i d j) + V c main_v0 (ix2 (n0 := 1) 0 d)
  | 0, _, hN => by
    have e := decAt_first V c ⟨8 * q + 0, hN⟩ (by show (8 * q + 0) % 8 = 0; omega)
    have hi' : i.val = (8 * q + 0) / 8 * 128 + a.val := by omega
    have ht := thr_apply V c ⟨8 * q + 0, hN⟩ a i hi'
    rw [show decAt V c (8 * q + 0) hN = _ from e]
    refine ⟨ht, fun d => ?_⟩
    refine (first_apply _ _ _ _ a d).trans ?_
    refine congrArg₂ (fun u v : EReal => u + v) ((pay_part V c ⟨8 * q + 0, hN⟩ _ a d i hi' ht).trans ?_) (decBlk2_apply V c _ d)
    rw [Finset.sum_range_one]
    exact congrArg (part _ _ i d) (by show (8 * q + 0) % 8 = 0; omega)
  | n + 1, hn, hN => by
    obtain ⟨ih2, ih1⟩ := decAt_apply c q hq a i hi n (by omega) (by omega)
    have e := decAt_later V c ⟨8 * q + (n + 1), hN⟩ (by show ¬(8 * q + (n + 1)) % 8 = 0; omega)
    have hi' : i.val = (8 * q + (n + 1)) / 8 * 128 + a.val := by omega
    rw [show decAt V c (8 * q + (n + 1)) hN = _ from e]
    refine ⟨ih2, fun d => ?_⟩
    refine (later_apply _ _ _ _ a d).trans ?_
    rw [Finset.sum_range_succ _ (n + 1), add_right_comm]
    refine congrArg₂ (fun u v : EReal => u + v) (ih1 d) ((pay_part V c ⟨8 * q + (n + 1), hN⟩ _ a d i hi' ih2).trans ?_)
    exact congrArg (part _ _ i d) (by show (8 * q + (n + 1)) % 8 = n + 1; omega)

/-- The array the decode call leaves is the output. -/
theorem decode_array (c : Dev nD) :
    (decDat V c).arrAt 3 cfg1.N = decoded (V c main_v2) (V c main_arg1) (V c main_v0) := by
  refine (decDat V c).arrAt_eq_of_covers 3 _ (by decide +kernel) fun t hf y => ?_
  blk_simp
  rw [dec_after3]
  obtain ⟨a, d, rfl⟩ : ∃ (a : Fin 128) (d : Fin 768), y = ix2 a d := ⟨y 0, y 1, eq_ix2 y⟩
  have ht : t.val < 128 := t.isLt
  have h7 : t.val % 8 = 7 := by rw [out_flush] at hf; exact of_decide_eq_true hf
  have e : (win1_3.blk t).view.emb (ix2 a d) = ix2 (n0 := 2048) (n1 := 768) ⟨t.val / 8 * 128 + a.val, by omega⟩ d := by
    blk_ext [dec_index3] <;> rfl
  refine Eq.trans ?_ (congrArg (decoded _ _ _) e).symm
  have et : t.val = 8 * (t.val / 8) + 7 := by omega
  have key := (decAt_apply V c (t.val / 8) (by omega) a ⟨t.val / 8 * 128 + a.val, by omega⟩ rfl 7 (by omega) (et ▸ t.isLt)).2 d
  have same : ∀ (n : ℕ) (hn : n < cfg1.N), n = t.val → decAt V c t.val t.isLt = decAt V c n hn := by
    intro n hn h; subst h; rfl
  rw [same _ (et ▸ t.isLt) et.symm]
  refine key.trans ?_
  rw [sum_parts]
  rfl

end Cert.KernelIdeal.Run

end
-- ==== Proof.KernelIdeal.Value.lean ====
module

public import proofs.«01_k».proof.Proof.KernelIdeal.Launch
public import proofs.«01_k».proof.Proof.KernelIdeal.Logits
public import proofs.«01_k».proof.Proof.KernelIdeal.Decoded

@[expose] public section

noncomputable section

/-! What the kernel's result array holds at the end of a run, from the program's arguments. -/

namespace Cert.KernelIdeal.Run

open Cert.KernelIdeal.Gen
open Idealize.ShloMosaic Idealize.ShloMosaic.TcCoe Idealize.ShloMosaic.ValueIdx

variable (m : (ℓ : Loc nD τ sig) → Buf (Elt Ideal) ℓ) (c : Dev nD)

/-- The bias as a row. -/
abbrev biasRow (pb : Vec Ideal S768 .f32) : Vec Ideal S1x768 .f32 := shapeCast S1x768 pb shapeCasts_S768_S1x768
/-- The encoder's bias as a row. -/
abbrev encRow (b1 : Vec Ideal S16384 .f32) : Vec Ideal S1x16384 .f32 := shapeCast S1x16384 b1 shapeCasts_S16384_S1x16384

theorem biasRow_apply (pb : Vec Ideal S768 .f32) (k : Fin 768) : biasRow pb (ix2 (0 : Fin 1) k) = pb (ix1 k) :=
  shapeCast_apply _ _ _ _ (by rw [Shape.rowMajor_val_one, Shape.rowMajor_val_two]; simp)
theorem encRow_apply (b1 : Vec Ideal S16384 .f32) (j : Fin 16384) : encRow b1 (ix2 (0 : Fin 1) j) = b1 (ix1 j) :=
  shapeCast_apply _ _ _ _ (by rw [Shape.rowMajor_val_one, Shape.rowMajor_val_two]; simp)

/-- The first row after the reshapes. -/
theorem atEnc_v0 : atEnc m c (Proc.devRef .tc main_v0) = biasRow (m ((c : Thread nD τ).loc main_arg3)) := by
  show StableHlo.after hostOps0 _ _ = _
  rw [StableHlo.after_cons, StableHlo.after_cons, StableHlo.after_nil, StableHlo.reshape_result_ne (h := by decide),
    StableHlo.reshape_result']
  rfl
/-- The second row after the reshapes. -/
theorem atEnc_v1 : atEnc m c (Proc.devRef .tc main_v1) = encRow (m ((c : Thread nD τ).loc main_arg4)) := by
  show StableHlo.after hostOps0 _ _ = _
  rw [StableHlo.after_cons, StableHlo.after_cons, StableHlo.after_nil, StableHlo.reshape_result',
    StableHlo.reshape_result_ne (h := by decide)]
  rfl

theorem atEnc_input (a : Ref sig .tc) (h : a ∈ inputs) : atEnc m c (Proc.devRef .tc a) = m ((c : Thread nD τ).loc a) :=
  atEnc_of m c a (inputs_rows a h)

theorem atDec_input (a : Ref sig .tc) (h : a ∈ inputs) : atDec m c (Proc.devRef .tc a) = m ((c : Thread nD τ).loc a) :=
  (atDec_of m c a (inputs_enc a h)).trans (atEnc_input m c a h)

/-- The logits the encode call leaves. -/
theorem atDec_logits : atDec m c (Proc.devRef .tc main_v2)
    = logits (m ((c : Thread nD τ).loc main_arg0)) (m ((c : Thread nD τ).loc main_arg2))
        (biasRow (m ((c : Thread nD τ).loc main_arg3))) (encRow (m ((c : Thread nD τ).loc main_arg4))) := by
  refine (atDec_arr m c 4).trans ((encode_array (encIn m) c).trans ?_)
  show logits (atEnc m c (Proc.devRef .tc main_arg0)) (atEnc m c (Proc.devRef .tc main_arg2))
    (atEnc m c (Proc.devRef .tc main_v0)) (atEnc m c (Proc.devRef .tc main_v1)) = _
  rw [atEnc_v0, atEnc_v1, atEnc_input m c main_arg0 (by decide), atEnc_input m c main_arg2 (by decide)]

/-- The result the decode call leaves. -/
theorem result_array : (decDat (decIn m) c).arrAt 3 cfg1.N
    = decoded (logits (m ((c : Thread nD τ).loc main_arg0)) (m ((c : Thread nD τ).loc main_arg2))
        (biasRow (m ((c : Thread nD τ).loc main_arg3))) (encRow (m ((c : Thread nD τ).loc main_arg4))))
      (m ((c : Thread nD τ).loc main_arg1)) (biasRow (m ((c : Thread nD τ).loc main_arg3))) := by
  refine (decode_array (decIn m) c).trans ?_
  show decoded (atDec m c (Proc.devRef .tc main_v2)) (atDec m c (Proc.devRef .tc main_arg1)) (atDec m c (Proc.devRef .tc main_v0)) = _
  rw [atDec_logits, atDec_input m c main_arg1 (by decide),
    atDec_of m c main_v0 (by decide +kernel), atEnc_v0]

end Cert.KernelIdeal.Run

end
-- ==== Proof.Algebraic.lean ====
module

public import proofs.«01_k».proof.Defs
public import proofs.«01_k».proof.Proof.NoTie
public import proofs.«01_k».proof.Proof.KernelIdeal.Value
public import proofs.«01_k».proof.Proof.Gen.ReferenceIdeal.Run

@[expose] public section

noncomputable section

/-! The kernel and the reference compute the same array, over the extended reals, when the 33 greatest logits of
    every row differ and none is `⊤`. -/

namespace Cert.Proof

open Idealize.ShloMosaic Idealize.ShloMosaic.ValueIdx Idealize.SL.Sem Cert.Rank
open Cert.KernelIdeal.Run (logits decoded biasRow encRow biasRow_apply encRow_apply cut term)
open Cert.ReferenceIdeal.Run (gathered distinct result_eq logits_apply)
open Cert.ReferenceIdeal.Read (val_main_v6 val_main_v11 val_main_v11_eq)
open scoped BigOperators

section
variable (x : Vec Ideal KernelIdeal.S2048x768 .f32) (w : Vec Ideal KernelIdeal.S16384x768 .f32)
  (wt : Vec Ideal KernelIdeal.S768x16384 .f32) (pb : Vec Ideal KernelIdeal.S768 .f32) (b1 : Vec Ideal KernelIdeal.S16384 .f32)

/-- The two programs' logits agree. -/
theorem same_logits : logits x wt (biasRow pb) (encRow b1) = val_main_v6 (F := Ideal) x wt pb b1 := by
  funext i
  refine Eq.trans ?_ ((logits_apply x wt pb b1 (i 0) (i 1)).symm.trans (congrArg _ (eq_ix2 i).symm))
  refine congrArg₂ (fun u v : EReal => u + v) (Finset.sum_congr rfl fun k _ => ?_) (encRow_apply b1 (i 1))
  exact congrArg (fun u : EReal => (x (ix2 (i 0) k) - u) * wt (ix2 k (i 1))) (biasRow_apply pb k)

/-- Keeping the logits that reach the threshold is keeping the 32 greatest. -/
theorem decoded_eq_gathered (L : Vec Ideal KernelIdeal.S2048x16384 .f32)
    (d : ∀ i : Fin 2048, Distinct (fun j : Fin 16384 => L (ix2 i j)) 32 (by decide)) :
    decoded L w (biasRow pb) = gathered L w pb := by
  funext i
  refine congrArg₂ (fun u v : EReal => u + v) ?_ (biasRow_apply pb (i 1))
  exact sum_reaching (m := 31) (d (i 0)) fun k => w (ix2 k (i 1))

/-- From the same arguments the two programs' results agree. -/
theorem same_result (h : Pre_no_tie.fn (F := Ideal) x w wt pb b1 = fun _ => 1#1) :
    decoded (logits x wt (biasRow pb) (encRow b1)) w (biasRow pb) = val_main_v11 (F := Ideal) x w wt pb b1 := by
  rw [same_logits, result_eq]
  exact decoded_eq_gathered w pb _ (distinct x w wt pb b1 h)

end

/-- The value claim. -/
theorem algebraic : algebraic_KernelIdeal_ReferenceIdeal_pre_no_tie := by
  intro m g m' g' hp hm
  refine ⟨fun c => (KernelIdeal.Run.decDat (KernelIdeal.Run.decIn m) c).arrAt 3 KernelIdeal.cfg1.N,
    (θ_run KernelIdeal.defs _ _).mono (fun _ h => h.1) (KernelIdeal.Run.run m g),
    (θ_run ReferenceIdeal.defs _ _).mono (fun _ h c => ⟨(h c).1.trans ?_, (h c).2⟩) (ReferenceIdeal.Value.run m' g')⟩
  obtain ⟨h0, h1, h2, h3, h4⟩ := hm c
  rw [val_main_v11_eq, h0, h1, h2, h3, h4]
  exact ((KernelIdeal.Run.result_array m c).trans (same_result _ _ _ _ _ (hp c))).symm

end Cert.Proof

end
-- ==== Proof.lean ====
module

public import proofs.«01_k».proof.Defs
public import proofs.«01_k».proof.Proof.Kernel.Launch
public import proofs.«01_k».proof.Proof.KernelIdeal.Launch
public import proofs.«01_k».proof.Proof.Reference
public import proofs.«01_k».proof.Proof.Algebraic

@[expose] public section

noncomputable section

/-! The certificate: the frames of the three programs, the named mask, and the value claim. -/

namespace Cert.Proof

open Idealize.ShloMosaic

/-- The kernel, over machine words. -/
theorem frame_kernel : quiescent_Kernel := fun m g _ => Kernel.Run.unchanged m g
/-- The kernel, over the extended reals, with the precondition and without. -/
theorem frame_ideal : quiescent_KernelIdeal := fun m g _ => KernelIdeal.Run.unchanged m g
theorem frame_ideal_pre : quiescent_KernelIdeal_pre_no_tie := fun m g _ => KernelIdeal.Run.unchanged m g
/-- The reference, over the extended reals, with the precondition and without. -/
theorem frame_reference : quiescent_ReferenceIdeal := fun m g _ => ReferenceIdeal.Run.unchanged m g
theorem frame_reference_pre : quiescent_ReferenceIdeal_pre_no_tie := fun m g _ => ReferenceIdeal.Run.unchanged m g
/-- The mask's name stands for `⊥`. -/
theorem mask : preserves_Kernel_KernelIdeal := IdealRules.named_const.statement Cert.KernelIdeal.κ "mask" .f32 0xF149F2CA#32 ⊥ rfl

theorem claim : Cert.Claim :=
  ⟨Cert.Kernel.Gen.facts, Cert.KernelIdeal.Gen.facts, Cert.ReferenceIdeal.Gen.facts, Cert.Pre_no_tie.Gen.facts,
    frame_kernel, frame_ideal, frame_ideal_pre, frame_reference, frame_reference_pre, mask, algebraic⟩

end Cert.Proof

end
